-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows_and_gate [hPre_finite_rows_and_gate : Cert.Pre_finite_rows_and_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows_and_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows_and_gate [hPre_finite_rows_and_gate : Cert.Pre_finite_rows_and_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows_and_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_rows_and_gate [hKernelIdeal : Cert.KernelIdeal.Facts] [hPre_finite_rows_and_gate : Cert.Pre_finite_rows_and_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows_and_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_rows_and_gate [hReferenceIdeal : Cert.ReferenceIdeal.Facts] [hPre_finite_rows_and_gate : Cert.Pre_finite_rows_and_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows_and_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_rows_and_gate [hKernelIdeal : Cert.KernelIdeal.Facts] [hReferenceIdeal : Cert.ReferenceIdeal.Facts] [hPre_finite_rows_and_gate : Cert.Pre_finite_rows_and_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows_and_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_rows_and_gate : Cert.Pre_finite_rows_and_gate.Facts),
    quiescent_Kernel (hKernel := hKernel)
    ∧ quiescent_KernelIdeal (hKernelIdeal := hKernelIdeal)
    ∧ quiescent_KernelIdeal_pre_finite_rows_and_gate (hKernelIdeal := hKernelIdeal) (hPre_finite_rows_and_gate := hPre_finite_rows_and_gate)
    ∧ quiescent_ReferenceIdeal (hReferenceIdeal := hReferenceIdeal)
    ∧ quiescent_ReferenceIdeal_pre_finite_rows_and_gate (hReferenceIdeal := hReferenceIdeal) (hPre_finite_rows_and_gate := hPre_finite_rows_and_gate)
    ∧ preserves_Kernel_KernelIdeal
    ∧ algebraic_KernelIdeal_ReferenceIdeal_pre_finite_rows_and_gate (hKernelIdeal := hKernelIdeal) (hReferenceIdeal := hReferenceIdeal) (hPre_finite_rows_and_gate := hPre_finite_rows_and_gate)
-- ==== Pre_finite_rows_and_gate.lean ====
abbrev S1x2048x768 : Shape := ⟨3, ![1, 2048, 768]⟩
abbrev S8x768 : Shape := ⟨2, ![8, 768]⟩
abbrev S8x1536x768 : Shape := ⟨3, ![8, 1536, 768]⟩
abbrev S8x768x1536 : Shape := ⟨3, ![8, 768, 1536]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_

variable [Facts]

def fn {F : FTy → Type} [FloatOps F] (main_arg0 : FVec F S1x2048x768 .f32) (main_arg1 : FVec F S8x768 .f32) (main_arg2 : FVec F S8x1536x768 .f32) (main_arg3 : FVec F S8x1536x768 .f32) (main_arg4 : FVec F S8x768x1536 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  main_v8
-- ==== Kernel.lean ====
abbrev S1x2048x768 : Shape := ⟨3, ![1, 2048, 768]⟩
abbrev S8x768 : Shape := ⟨2, ![8, 768]⟩
abbrev S8x1536x768 : Shape := ⟨3, ![8, 1536, 768]⟩
abbrev S8x768x1536 : Shape := ⟨3, ![8, 768, 1536]⟩
abbrev S2048x768 : Shape := ⟨2, ![2048, 768]⟩
abbrev S2048x8 : Shape := ⟨2, ![2048, 8]⟩
abbrev S256x768 : Shape := ⟨2, ![256, 768]⟩
abbrev S256x8 : Shape := ⟨2, ![256, 8]⟩
abbrev S256 : Shape := ⟨1, ![256]⟩
abbrev S256x1 : Shape := ⟨2, ![256, 1]⟩
abbrev S1x1536x768 : Shape := ⟨3, ![1, 1536, 768]⟩
abbrev S1x768x1536 : Shape := ⟨3, ![1, 768, 1536]⟩
abbrev S1536x768 : Shape := ⟨2, ![1536, 768]⟩
abbrev S256x1536 : Shape := ⟨2, ![256, 1536]⟩
abbrev S768x1536 : Shape := ⟨2, ![768, 1536]⟩

abbrev nBuf : Space → Nat
  | .hbm => 10
  | .vmem => 19
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8x1536x768, .f32⟩
  | .hbm, ⟨3, _⟩ => ⟨S8x1536x768, .f32⟩
  | .hbm, ⟨4, _⟩ => ⟨S8x768x1536, .f32⟩
  | .hbm, ⟨5, _⟩ => ⟨S2048x768, .f32⟩
  | .hbm, ⟨6, _⟩ => ⟨S2048x8, .f32⟩
  | .hbm, ⟨7, _⟩ => ⟨S2048x8, .f32⟩
  | .hbm, ⟨8, _⟩ => ⟨S2048x768, .f32⟩
  | .hbm, ⟨9, _⟩ => ⟨S1x2048x768, .f32⟩
  | .local _ .vmem, ⟨0, _⟩ => ⟨S256x768, .f32⟩
  | .local _ .vmem, ⟨1, _⟩ => ⟨S256x768, .f32⟩
  | .local _ .vmem, ⟨2, _⟩ => ⟨S8x768, .f32⟩
  | .local _ .vmem, ⟨3, _⟩ => ⟨S256x8, .f32⟩
  | .local _ .vmem, ⟨4, _⟩ => ⟨S256x8, .f32⟩
  | .local _ .vmem, ⟨5, _⟩ => ⟨S256x8, .f32⟩
  | .local _ .vmem, ⟨6, _⟩ => ⟨S256x8, .f32⟩
  | .local _ .vmem, ⟨7, _⟩ => ⟨S256x768, .f32⟩
  | .local _ .vmem, ⟨8, _⟩ => ⟨S256x768, .f32⟩
  | .local _ .vmem, ⟨9, _⟩ => ⟨S256x8, .f32⟩
  | .local _ .vmem, ⟨10, _⟩ => ⟨S256x8, .f32⟩
  | .local _ .vmem, ⟨11, _⟩ => ⟨S1x1536x768, .f32⟩
  | .local _ .vmem, ⟨12, _⟩ => ⟨S1x1536x768, .f32⟩
  | .local _ .vmem, ⟨13, _⟩ => ⟨S1x1536x768, .f32⟩
  | .local _ .vmem, ⟨14, _⟩ => ⟨S1x1536x768, .f32⟩
  | .local _ .vmem, ⟨15, _⟩ => ⟨S1x768x1536, .f32⟩
  | .local _ .vmem, ⟨16, _⟩ => ⟨S1x768x1536, .f32⟩
  | .local _ .vmem, ⟨17, _⟩ => ⟨S256x768, .f32⟩
  | .local _ .vmem, ⟨18, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0_1 : Ref sig .tc := ⟨.hbm, 6, rfl⟩
abbrev main_call0_v1_1 : Ref sig .tc := ⟨.hbm, 7, rfl⟩
abbrev main_call0_v2 : Ref sig .tc := ⟨.hbm, 8, rfl⟩
abbrev main_v0_0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_16 : BitVec 32 := 0#32
  let v27 : BitVec 1 := Scalar.cmpi .ne v26 c0_i32_16
  v27

def k1_cond2 (i : grid1.Coords) : BitVec 1 :=
  let arg1 : BitVec 32 := BitVec.ofNat 32 (i 1).val
  let c0_i32_17 : BitVec 32 := 0#32
  let v28 : BitVec 1 := Scalar.cmpi .sgt arg1 c0_i32_17
  let v29 : BitVec 32 := Scalar.extui v28
  let c0_i32_18 : BitVec 32 := 0#32
  let v30 : BitVec 1 := Scalar.cmpi .ne v29 c0_i32_18
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1536x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1536x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x768x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S1x2048x768 : Shape := ⟨3, ![1, 2048, 768]⟩
abbrev S8x768 : Shape := ⟨2, ![8, 768]⟩
abbrev S8x1536x768 : Shape := ⟨3, ![8, 1536, 768]⟩
abbrev S8x768x1536 : Shape := ⟨3, ![8, 768, 1536]⟩
abbrev S2048x768 : Shape := ⟨2, ![2048, 768]⟩
abbrev S768x8 : Shape := ⟨2, ![768, 8]⟩
abbrev S2048x8 : Shape := ⟨2, ![2048, 8]⟩
abbrev S2048x2 : Shape := ⟨2, ![2048, 2]⟩
abbrev S2048x1 : Shape := ⟨2, ![2048, 1]⟩
abbrev S_ : Shape := ⟨0, ![]⟩
abbrev S2048 : Shape := ⟨1, ![2048]⟩
abbrev S2048x1x1 : Shape := ⟨3, ![2048, 1, 1]⟩
abbrev S1 : Shape := ⟨1, ![1]⟩
abbrev S1x1x1 : Shape := ⟨3, ![1, 1, 1]⟩
abbrev S1x8 : Shape := ⟨2, ![1, 8]⟩
abbrev S1x1536x768 : Shape := ⟨3, ![1, 1536, 768]⟩
abbrev S1536x768 : Shape := ⟨2, ![1536, 768]⟩
abbrev S768x1536 : Shape := ⟨2, ![768, 1536]⟩
abbrev S2048x1536 : Shape := ⟨2, ![2048, 1536]⟩
abbrev S1x768x1536 : Shape := ⟨3, ![1, 768, 1536]⟩

abbrev nBuf : Space → Nat
  | .hbm => 407
  | .vmem => 0
  | .smem => 0
  | _ => 0

abbrev hbmTy0_0 (i : Nat) : BufTy := match i % 128 with
  | 0 => ⟨S1x2048x768, .f32⟩
  | 1 => ⟨S8x768, .f32⟩
  | 2 => ⟨S8x1536x768, .f32⟩
  | 3 => ⟨S8x1536x768, .f32⟩
  | 4 => ⟨S8x768x1536, .f32⟩
  | 5 => ⟨S2048x768, .f32⟩
  | 6 => ⟨S768x8, .f32⟩
  | 7 => ⟨S2048x8, .f32⟩
  | 8 => ⟨S2048x2, .f32⟩
  | 9 => ⟨S2048x2, .i32⟩
  | 10 => ⟨S2048x1, .f32⟩
  | 11 => ⟨S2048x8, .f32⟩
  | 12 => ⟨S2048x8, .f32⟩
  | 13 => ⟨S2048x8, .f32⟩
  | 14 => ⟨S2048x8, .f32⟩
  | 15 => ⟨S2048x8, .f32⟩
  | 16 => ⟨S2048x8, .f32⟩
  | 17 => ⟨S_, .f32⟩
  | 18 => ⟨S2048x8, .f32⟩
  | 19 => ⟨S2048x8, .i1⟩
  | 20 => ⟨S_, .f32⟩
  | 21 => ⟨S_, .f32⟩
  | 22 => ⟨S2048x8, .f32⟩
  | 23 => ⟨S2048x8, .f32⟩
  | 24 => ⟨S_, .f32⟩
  | 25 => ⟨S2048, .f32⟩
  | 26 => ⟨S_, .f32⟩
  | 27 => ⟨S2048, .f32⟩
  | 28 => ⟨S2048, .f32⟩
  | 29 => ⟨S2048x1, .f32⟩
  | 30 => ⟨S2048x8, .f32⟩
  | 31 => ⟨S2048x8, .f32⟩
  | 32 => ⟨S2048x8, .f32⟩
  | 33 => ⟨S_, .f32⟩
  | 34 => ⟨S2048, .f32⟩
  | 35 => ⟨S2048x1, .f32⟩
  | 36 => ⟨S2048x8, .f32⟩
  | 37 => ⟨S2048x8, .f32⟩
  | 38 => ⟨S2048x1, .i32⟩
  | 39 => ⟨S_, .i32⟩
  | 40 => ⟨S2048x1, .i32⟩
  | 41 => ⟨S2048x1, .i1⟩
  | 42 => ⟨S_, .i32⟩
  | 43 => ⟨S2048x1, .i32⟩
  | 44 => ⟨S2048x1, .i32⟩
  | 45 => ⟨S2048x1, .i32⟩
  | 46 => ⟨S2048x1x1, .i32⟩
  | 47 => ⟨S1, .i32⟩
  | 48 => ⟨S_, .i32⟩
  | 49 => ⟨S2048x1x1, .i32⟩
  | 50 => ⟨S2048x1x1, .i1⟩
  | 51 => ⟨S1x1x1, .i32⟩
  | 52 => ⟨S2048x1x1, .i32⟩
  | 53 => ⟨S2048x1x1, .i1⟩
  | 54 => ⟨S2048x1x1, .i1⟩
  | 55 => ⟨S_, .i1⟩
  | 56 => ⟨S2048x1, .i1⟩
  | 57 => ⟨S2048x1, .f32⟩
  | 58 => ⟨S_, .f32⟩
  | 59 => ⟨S2048x1, .f32⟩
  | 60 => ⟨S2048x1, .f32⟩
  | 61 => ⟨S2048x1, .i32⟩
  | 62 => ⟨S2048, .i32⟩
  | 63 => ⟨S2048x1, .i32⟩
  | 64 => ⟨S1x8, .i32⟩
  | 65 => ⟨S2048x8, .i32⟩
  | 66 => ⟨S2048x8, .i32⟩
  | 67 => ⟨S2048x8, .i1⟩
  | 68 => ⟨S_, .f32⟩
  | 69 => ⟨S_, .f32⟩
  | 70 => ⟨S2048x8, .f32⟩
  | 71 => ⟨S2048x8, .f32⟩
  | 72 => ⟨S2048x1, .f32⟩
  | 73 => ⟨S2048x8, .f32⟩
  | 74 => ⟨S2048x8, .f32⟩
  | 75 => ⟨S2048x8, .f32⟩
  | 76 => ⟨S2048x8, .f32⟩
  | 77 => ⟨S2048x8, .f32⟩
  | 78 => ⟨S2048x8, .f32⟩
  | 79 => ⟨S_, .f32⟩
  | 80 => ⟨S2048x8, .f32⟩
  | 81 => ⟨S2048x8, .i1⟩
  | 82 => ⟨S_, .f32⟩
  | 83 => ⟨S_, .f32⟩
  | 84 => ⟨S2048x8, .f32⟩
  | 85 => ⟨S2048x8, .f32⟩
  | 86 => ⟨S_, .f32⟩
  | 87 => ⟨S2048, .f32⟩
  | 88 => ⟨S_, .f32⟩
  | 89 => ⟨S2048, .f32⟩
  | 90 => ⟨S2048, .f32⟩
  | 91 => ⟨S2048x1, .f32⟩
  | 92 => ⟨S2048x8, .f32⟩
  | 93 => ⟨S2048x8, .f32⟩
  | 94 => ⟨S2048x8, .f32⟩
  | 95 => ⟨S_, .f32⟩
  | 96 => ⟨S2048, .f32⟩
  | 97 => ⟨S2048x1, .f32⟩
  | 98 => ⟨S2048x8, .f32⟩
  | 99 => ⟨S2048x8, .f32⟩
  | 100 => ⟨S2048x1, .i32⟩
  | 101 => ⟨S_, .i32⟩
  | 102 => ⟨S2048x1, .i32⟩
  | 103 => ⟨S2048x1, .i1⟩
  | 104 => ⟨S_, .i32⟩
  | 105 => ⟨S2048x1, .i32⟩
  | 106 => ⟨S2048x1, .i32⟩
  | 107 => ⟨S2048x1, .i32⟩
  | 108 => ⟨S2048x1x1, .i32⟩
  | 109 => ⟨S1, .i32⟩
  | 110 => ⟨S_, .i32⟩
  | 111 => ⟨S2048x1x1, .i32⟩
  | 112 => ⟨S2048x1x1, .i1⟩
  | 113 => ⟨S1x1x1, .i32⟩
  | 114 => ⟨S2048x1x1, .i32⟩
  | 115 => ⟨S2048x1x1, .i1⟩
  | 116 => ⟨S2048x1x1, .i1⟩
  | 117 => ⟨S_, .i1⟩
  | 118 => ⟨S2048x1, .i1⟩
  | 119 => ⟨S2048x1, .f32⟩
  | 120 => ⟨S_, .f32⟩
  | 121 => ⟨S2048x1, .f32⟩
  | 122 => ⟨S2048x1, .f32⟩
  | 123 => ⟨S2048x2, .f32⟩
  | 124 => ⟨S_, .f32⟩
  | 125 => ⟨S2048x768, .f32⟩
  | 126 => ⟨S1x1536x768, .f32⟩
  | 127 => ⟨S1536x768, .f32⟩
  | _ => ⟨S1x2048x768, .f32⟩

abbrev hbmTy0_1 (i : Nat) : BufTy := match i % 128 with
  | 0 => ⟨S768x1536, .f32⟩
  | 1 => ⟨S2048x1536, .f32⟩
  | 2 => ⟨S2048x1536, .f32⟩
  | 3 => ⟨S2048x1536, .f32⟩
  | 4 => ⟨S_, .f32⟩
  | 5 => ⟨S2048x1536, .f32⟩
  | 6 => ⟨S2048x1536, .f32⟩
  | 7 => ⟨S_, .f32⟩
  | 8 => ⟨S2048x1536, .f32⟩
  | 9 => ⟨S2048x1536, .f32⟩
  | 10 => ⟨S2048x1536, .f32⟩
  | 11 => ⟨S1x1536x768, .f32⟩
  | 12 => ⟨S1536x768, .f32⟩
  | 13 => ⟨S768x1536, .f32⟩
  | 14 => ⟨S2048x1536, .f32⟩
  | 15 => ⟨S2048x1536, .f32⟩
  | 16 => ⟨S1x768x1536, .f32⟩
  | 17 => ⟨S768x1536, .f32⟩
  | 18 => ⟨S1536x768, .f32⟩
  | 19 => ⟨S2048x768, .f32⟩
  | 20 => ⟨S_, .i32⟩
  | 21 => ⟨S2048x2, .i32⟩
  | 22 => ⟨S2048x2, .i1⟩
  | 23 => ⟨S_, .f32⟩
  | 24 => ⟨S_, .f32⟩
  | 25 => ⟨S2048x2, .f32⟩
  | 26 => ⟨S2048x2, .f32⟩
  | 27 => ⟨S_, .f32⟩
  | 28 => ⟨S2048, .f32⟩
  | 29 => ⟨S2048x1, .f32⟩
  | 30 => ⟨S2048x768, .f32⟩
  | 31 => ⟨S2048x768, .f32⟩
  | 32 => ⟨S2048x768, .f32⟩
  | 33 => ⟨S1x1536x768, .f32⟩
  | 34 => ⟨S1536x768, .f32⟩
  | 35 => ⟨S768x1536, .f32⟩
  | 36 => ⟨S2048x1536, .f32⟩
  | 37 => ⟨S2048x1536, .f32⟩
  | 38 => ⟨S2048x1536, .f32⟩
  | 39 => ⟨S_, .f32⟩
  | 40 => ⟨S2048x1536, .f32⟩
  | 41 => ⟨S2048x1536, .f32⟩
  | 42 => ⟨S_, .f32⟩
  | 43 => ⟨S2048x1536, .f32⟩
  | 44 => ⟨S2048x1536, .f32⟩
  | 45 => ⟨S2048x1536, .f32⟩
  | 46 => ⟨S1x1536x768, .f32⟩
  | 47 => ⟨S1536x768, .f32⟩
  | 48 => ⟨S768x1536, .f32⟩
  | 49 => ⟨S2048x1536, .f32⟩
  | 50 => ⟨S2048x1536, .f32⟩
  | 51 => ⟨S1x768x1536, .f32⟩
  | 52 => ⟨S768x1536, .f32⟩
  | 53 => ⟨S1536x768, .f32⟩
  | 54 => ⟨S2048x768, .f32⟩
  | 55 => ⟨S_, .i32⟩
  | 56 => ⟨S2048x2, .i32⟩
  | 57 => ⟨S2048x2, .i1⟩
  | 58 => ⟨S_, .f32⟩
  | 59 => ⟨S_, .f32⟩
  | 60 => ⟨S2048x2, .f32⟩
  | 61 => ⟨S2048x2, .f32⟩
  | 62 => ⟨S_, .f32⟩
  | 63 => ⟨S2048, .f32⟩
  | 64 => ⟨S2048x1, .f32⟩
  | 65 => ⟨S2048x768, .f32⟩
  | 66 => ⟨S2048x768, .f32⟩
  | 67 => ⟨S2048x768, .f32⟩
  | 68 => ⟨S1x1536x768, .f32⟩
  | 69 => ⟨S1536x768, .f32⟩
  | 70 => ⟨S768x1536, .f32⟩
  | 71 => ⟨S2048x1536, .f32⟩
  | 72 => ⟨S2048x1536, .f32⟩
  | 73 => ⟨S2048x1536, .f32⟩
  | 74 => ⟨S_, .f32⟩
  | 75 => ⟨S2048x1536, .f32⟩
  | 76 => ⟨S2048x1536, .f32⟩
  | 77 => ⟨S_, .f32⟩
  | 78 => ⟨S2048x1536, .f32⟩
  | 79 => ⟨S2048x1536, .f32⟩
  | 80 => ⟨S2048x1536, .f32⟩
  | 81 => ⟨S1x1536x768, .f32⟩
  | 82 => ⟨S1536x768, .f32⟩
  | 83 => ⟨S768x1536, .f32⟩
  | 84 => ⟨S2048x1536, .f32⟩
  | 85 => ⟨S2048x1536, .f32⟩
  | 86 => ⟨S1x768x1536, .f32⟩
  | 87 => ⟨S768x1536, .f32⟩
  | 88 => ⟨S1536x768, .f32⟩
  | 89 => ⟨S2048x768, .f32⟩
  | 90 => ⟨S_, .i32⟩
  | 91 => ⟨S2048x2, .i32⟩
  | 92 => ⟨S2048x2, .i1⟩
  | 93 => ⟨S_, .f32⟩
  | 94 => ⟨S_, .f32⟩
  | 95 => ⟨S2048x2, .f32⟩
  | 96 => ⟨S2048x2, .f32⟩
  | 97 => ⟨S_, .f32⟩
  | 98 => ⟨S2048, .f32⟩
  | 99 => ⟨S2048x1, .f32⟩
  | 100 => ⟨S2048x768, .f32⟩
  | 101 => ⟨S2048x768, .f32⟩
  | 102 => ⟨S2048x768, .f32⟩
  | 103 => ⟨S1x1536x768, .f32⟩
  | 104 => ⟨S1536x768, .f32⟩
  | 105 => ⟨S768x1536, .f32⟩
  | 106 => ⟨S2048x1536, .f32⟩
  | 107 => ⟨S2048x1536, .f32⟩
  | 108 => ⟨S2048x1536, .f32⟩
  | 109 => ⟨S_, .f32⟩
  | 110 => ⟨S2048x1536, .f32⟩
  | 111 => ⟨S2048x1536, .f32⟩
  | 112 => ⟨S_, .f32⟩
  | 113 => ⟨S2048x1536, .f32⟩
  | 114 => ⟨S2048x1536, .f32⟩
  | 115 => ⟨S2048x1536, .f32⟩
  | 116 => ⟨S1x1536x768, .f32⟩
  | 117 => ⟨S1536x768, .f32⟩
  | 118 => ⟨S768x1536, .f32⟩
  | 119 => ⟨S2048x1536, .f32⟩
  | 120 => ⟨S2048x1536, .f32⟩
  | 121 => ⟨S1x768x1536, .f32⟩
  | 122 => ⟨S768x1536, .f32⟩
  | 123 => ⟨S1536x768, .f32⟩
  | 124 => ⟨S2048x768, .f32⟩
  | 125 => ⟨S_, .i32⟩
  | 126 => ⟨S2048x2, .i32⟩
  | 127 => ⟨S2048x2, .i1⟩
  | _ => ⟨S1x2048x768, .f32⟩

abbrev hbmTy0_2 (i : Nat) : BufTy := match i % 128 with
  | 0 => ⟨S_, .f32⟩
  | 1 => ⟨S_, .f32⟩
  | 2 => ⟨S2048x2, .f32⟩
  | 3 => ⟨S2048x2, .f32⟩
  | 4 => ⟨S_, .f32⟩
  | 5 => ⟨S2048, .f32⟩
  | 6 => ⟨S2048x1, .f32⟩
  | 7 => ⟨S2048x768, .f32⟩
  | 8 => ⟨S2048x768, .f32⟩
  | 9 => ⟨S2048x768, .f32⟩
  | 10 => ⟨S1x1536x768, .f32⟩
  | 11 => ⟨S1536x768, .f32⟩
  | 12 => ⟨S768x1536, .f32⟩
  | 13 => ⟨S2048x1536, .f32⟩
  | 14 => ⟨S2048x1536, .f32⟩
  | 15 => ⟨S2048x1536, .f32⟩
  | 16 => ⟨S_, .f32⟩
  | 17 => ⟨S2048x1536, .f32⟩
  | 18 => ⟨S2048x1536, .f32⟩
  | 19 => ⟨S_, .f32⟩
  | 20 => ⟨S2048x1536, .f32⟩
  | 21 => ⟨S2048x1536, .f32⟩
  | 22 => ⟨S2048x1536, .f32⟩
  | 23 => ⟨S1x1536x768, .f32⟩
  | 24 => ⟨S1536x768, .f32⟩
  | 25 => ⟨S768x1536, .f32⟩
  | 26 => ⟨S2048x1536, .f32⟩
  | 27 => ⟨S2048x1536, .f32⟩
  | 28 => ⟨S1x768x1536, .f32⟩
  | 29 => ⟨S768x1536, .f32⟩
  | 30 => ⟨S1536x768, .f32⟩
  | 31 => ⟨S2048x768, .f32⟩
  | 32 => ⟨S_, .i32⟩
  | 33 => ⟨S2048x2, .i32⟩
  | 34 => ⟨S2048x2, .i1⟩
  | 35 => ⟨S_, .f32⟩
  | 36 => ⟨S_, .f32⟩
  | 37 => ⟨S2048x2, .f32⟩
  | 38 => ⟨S2048x2, .f32⟩
  | 39 => ⟨S_, .f32⟩
  | 40 => ⟨S2048, .f32⟩
  | 41 => ⟨S2048x1, .f32⟩
  | 42 => ⟨S2048x768, .f32⟩
  | 43 => ⟨S2048x768, .f32⟩
  | 44 => ⟨S2048x768, .f32⟩
  | 45 => ⟨S1x1536x768, .f32⟩
  | 46 => ⟨S1536x768, .f32⟩
  | 47 => ⟨S768x1536, .f32⟩
  | 48 => ⟨S2048x1536, .f32⟩
  | 49 => ⟨S2048x1536, .f32⟩
  | 50 => ⟨S2048x1536, .f32⟩
  | 51 => ⟨S_, .f32⟩
  | 52 => ⟨S2048x1536, .f32⟩
  | 53 => ⟨S2048x1536, .f32⟩
  | 54 => ⟨S_, .f32⟩
  | 55 => ⟨S2048x1536, .f32⟩
  | 56 => ⟨S2048x1536, .f32⟩
  | 57 => ⟨S2048x1536, .f32⟩
  | 58 => ⟨S1x1536x768, .f32⟩
  | 59 => ⟨S1536x768, .f32⟩
  | 60 => ⟨S768x1536, .f32⟩
  | 61 => ⟨S2048x1536, .f32⟩
  | 62 => ⟨S2048x1536, .f32⟩
  | 63 => ⟨S1x768x1536, .f32⟩
  | 64 => ⟨S768x1536, .f32⟩
  | 65 => ⟨S1536x768, .f32⟩
  | 66 => ⟨S2048x768, .f32⟩
  | 67 => ⟨S_, .i32⟩
  | 68 => ⟨S2048x2, .i32⟩
  | 69 => ⟨S2048x2, .i1⟩
  | 70 => ⟨S_, .f32⟩
  | 71 => ⟨S_, .f32⟩
  | 72 => ⟨S2048x2, .f32⟩
  | 73 => ⟨S2048x2, .f32⟩
  | 74 => ⟨S_, .f32⟩
  | 75 => ⟨S2048, .f32⟩
  | 76 => ⟨S2048x1, .f32⟩
  | 77 => ⟨S2048x768, .f32⟩
  | 78 => ⟨S2048x768, .f32⟩
  | 79 => ⟨S2048x768, .f32⟩
  | 80 => ⟨S1x1536x768, .f32⟩
  | 81 => ⟨S1536x768, .f32⟩
  | 82 => ⟨S768x1536, .f32⟩
  | 83 => ⟨S2048x1536, .f32⟩
  | 84 => ⟨S2048x1536, .f32⟩
  | 85 => ⟨S2048x1536, .f32⟩
  | 86 => ⟨S_, .f32⟩
  | 87 => ⟨S2048x1536, .f32⟩
  | 88 => ⟨S2048x1536, .f32⟩
  | 89 => ⟨S_, .f32⟩
  | 90 => ⟨S2048x1536, .f32⟩
  | 91 => ⟨S2048x1536, .f32⟩
  | 92 => ⟨S2048x1536, .f32⟩
  | 93 => ⟨S1x1536x768, .f32⟩
  | 94 => ⟨S1536x768, .f32⟩
  | 95 => ⟨S768x1536, .f32⟩
  | 96 => ⟨S2048x1536, .f32⟩
  | 97 => ⟨S2048x1536, .f32⟩
  | 98 => ⟨S1x768x1536, .f32⟩
  | 99 => ⟨S768x1536, .f32⟩
  | 100 => ⟨S1536x768, .f32⟩
  | 101 => ⟨S2048x768, .f32⟩
  | 102 => ⟨S_, .i32⟩
  | 103 => ⟨S2048x2, .i32⟩
  | 104 => ⟨S2048x2, .i1⟩
  | 105 => ⟨S_, .f32⟩
  | 106 => ⟨S_, .f32⟩
  | 107 => ⟨S2048x2, .f32⟩
  | 108 => ⟨S2048x2, .f32⟩
  | 109 => ⟨S_, .f32⟩
  | 110 => ⟨S2048, .f32⟩
  | 111 => ⟨S2048x1, .f32⟩
  | 112 => ⟨S2048x768, .f32⟩
  | 113 => ⟨S2048x768, .f32⟩
  | 114 => ⟨S2048x768, .f32⟩
  | 115 => ⟨S1x1536x768, .f32⟩
  | 116 => ⟨S1536x768, .f32⟩
  | 117 => ⟨S768x1536, .f32⟩
  | 118 => ⟨S2048x1536, .f32⟩
  | 119 => ⟨S2048x1536, .f32⟩
  | 120 => ⟨S2048x1536, .f32⟩
  | 121 => ⟨S_, .f32⟩
  | 122 => ⟨S2048x1536, .f32⟩
  | 123 => ⟨S2048x1536, .f32⟩
  | 124 => ⟨S_, .f32⟩
  | 125 => ⟨S2048x1536, .f32⟩
  | 126 => ⟨S2048x1536, .f32⟩
  | 127 => ⟨S2048x1536, .f32⟩
  | _ => ⟨S1x2048x768, .f32⟩

abbrev hbmTy0_3 (i : Nat) : BufTy := match i % 128 with
  | 0 => ⟨S1x1536x768, .f32⟩
  | 1 => ⟨S1536x768, .f32⟩
  | 2 => ⟨S768x1536, .f32⟩
  | 3 => ⟨S2048x1536, .f32⟩
  | 4 => ⟨S2048x1536, .f32⟩
  | 5 => ⟨S1x768x1536, .f32⟩
  | 6 => ⟨S768x1536, .f32⟩
  | 7 => ⟨S1536x768, .f32⟩
  | 8 => ⟨S2048x768, .f32⟩
  | 9 => ⟨S_, .i32⟩
  | 10 => ⟨S2048x2, .i32⟩
  | 11 => ⟨S2048x2, .i1⟩
  | 12 => ⟨S_, .f32⟩
  | 13 => ⟨S_, .f32⟩
  | 14 => ⟨S2048x2, .f32⟩
  | 15 => ⟨S2048x2, .f32⟩
  | 16 => ⟨S_, .f32⟩
  | 17 => ⟨S2048, .f32⟩
  | 18 => ⟨S2048x1, .f32⟩
  | 19 => ⟨S2048x768, .f32⟩
  | 20 => ⟨S2048x768, .f32⟩
  | 21 => ⟨S2048x768, .f32⟩
  | 22 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | 3 => hbmTy0_3 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_values : Ref sig .tc := ⟨.hbm, 8, rfl⟩
abbrev main_indices : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_v28 : Ref sig .tc := ⟨.hbm, 67, rfl⟩
abbrev main_cst_4 : Ref sig .tc := ⟨.hbm, 68, rfl⟩
abbrev main_call3_v0 : Ref sig .tc := ⟨.hbm, 69, rfl⟩
abbrev main_call3_v1 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_5 : Ref sig .tc := ⟨.hbm, 79, rfl⟩
abbrev main_v37 : Ref sig .tc := ⟨.hbm, 80, rfl⟩
abbrev main_v38 : Ref sig .tc := ⟨.hbm, 81, rfl⟩
abbrev main_cst_6 : Ref sig .tc := ⟨.hbm, 82, rfl⟩
abbrev main_call4_v0 : Ref sig .tc := ⟨.hbm, 83, rfl⟩
abbrev main_call4_v1 : Ref sig .tc := ⟨.hbm, 84, rfl⟩
abbrev main_v39 : Ref sig .tc := ⟨.hbm, 85, rfl⟩
abbrev main_cst_7 : Ref sig .tc := ⟨.hbm, 86, rfl⟩
abbrev main_v40 : Ref sig .tc := ⟨.hbm, 87, rfl⟩
abbrev main_cst_8 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_9 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_call5_c : Ref sig .tc := ⟨.hbm, 101, rfl⟩
abbrev main_call5_v0 : Ref sig .tc := ⟨.hbm, 102, rfl⟩
abbrev main_call5_v1 : Ref sig .tc := ⟨.hbm, 103, rfl⟩
abbrev main_call5_c_0 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_c_1 : Ref sig .tc := ⟨.hbm, 109, rfl⟩
abbrev main_call5_c_2 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_v9 : Ref sig .tc := ⟨.hbm, 114, rfl⟩
abbrev main_call5_v10 : Ref sig .tc := ⟨.hbm, 115, rfl⟩
abbrev main_call5_v11 : Ref sig .tc := ⟨.hbm, 116, rfl⟩
abbrev main_call5_c_3 : Ref sig .tc := ⟨.hbm, 117, rfl⟩
abbrev main_call5_v12 : Ref sig .tc := ⟨.hbm, 118, rfl⟩
abbrev main_call5_v13 : Ref sig .tc := ⟨.hbm, 119, rfl⟩
abbrev main_call5_cst : Ref sig .tc := ⟨.hbm, 120, rfl⟩
abbrev main_call5_v14 : Ref sig .tc := ⟨.hbm, 121, rfl⟩
abbrev main_v52 : Ref sig .tc := ⟨.hbm, 122, rfl⟩
abbrev main_v53 : Ref sig .tc := ⟨.hbm, 123, rfl⟩
abbrev main_cst_10 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_call6_v0 : Ref sig .tc := ⟨.hbm, 130, rfl⟩
abbrev main_call6_v1 : Ref sig .tc := ⟨.hbm, 131, rfl⟩
abbrev main_call6_cst : Ref sig .tc := ⟨.hbm, 132, rfl⟩
abbrev main_call6_v2 : Ref sig .tc := ⟨.hbm, 133, rfl⟩
abbrev main_call6_v3 : Ref sig .tc := ⟨.hbm, 134, rfl⟩
abbrev main_call6_cst_0 : Ref sig .tc := ⟨.hbm, 135, rfl⟩
abbrev main_call6_v4 : Ref sig .tc := ⟨.hbm, 136, rfl⟩
abbrev main_call6_v5 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_c : Ref sig .tc := ⟨.hbm, 148, rfl⟩
abbrev main_v69 : Ref sig .tc := ⟨.hbm, 149, rfl⟩
abbrev main_v70 : Ref sig .tc := ⟨.hbm, 150, rfl⟩
abbrev main_cst_11 : Ref sig .tc := ⟨.hbm, 151, rfl⟩
abbrev main_call7_v0 : Ref sig .tc := ⟨.hbm, 152, rfl⟩
abbrev main_call7_v1 : Ref sig .tc := ⟨.hbm, 153, rfl⟩
abbrev main_v71 : Ref sig .tc := ⟨.hbm, 154, rfl⟩
abbrev main_cst_12 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_call8_v0 : Ref sig .tc := ⟨.hbm, 165, rfl⟩
abbrev main_call8_v1 : Ref sig .tc := ⟨.hbm, 166, rfl⟩
abbrev main_call8_cst : Ref sig .tc := ⟨.hbm, 167, rfl⟩
abbrev main_call8_v2 : Ref sig .tc := ⟨.hbm, 168, rfl⟩
abbrev main_call8_v3 : Ref sig .tc := ⟨.hbm, 169, rfl⟩
abbrev main_call8_cst_0 : Ref sig .tc := ⟨.hbm, 170, rfl⟩
abbrev main_call8_v4 : Ref sig .tc := ⟨.hbm, 171, rfl⟩
abbrev main_call8_v5 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_c_13 : Ref sig .tc := ⟨.hbm, 183, rfl⟩
abbrev main_v91 : Ref sig .tc := ⟨.hbm, 184, rfl⟩
abbrev main_v92 : Ref sig .tc := ⟨.hbm, 185, rfl⟩
abbrev main_cst_14 : Ref sig .tc := ⟨.hbm, 186, rfl⟩
abbrev main_call9_v0 : Ref sig .tc := ⟨.hbm, 187, rfl⟩
abbrev main_call9_v1 : Ref sig .tc := ⟨.hbm, 188, rfl⟩
abbrev main_v93 : Ref sig .tc := ⟨.hbm, 189, rfl⟩
abbrev main_cst_15 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_call10_v0 : Ref sig .tc := ⟨.hbm, 200, rfl⟩
abbrev main_call10_v1 : Ref sig .tc := ⟨.hbm, 201, rfl⟩
abbrev main_call10_cst : Ref sig .tc := ⟨.hbm, 202, rfl⟩
abbrev main_call10_v2 : Ref sig .tc := ⟨.hbm, 203, rfl⟩
abbrev main_call10_v3 : Ref sig .tc := ⟨.hbm, 204, rfl⟩
abbrev main_call10_cst_0 : Ref sig .tc := ⟨.hbm, 205, rfl⟩
abbrev main_call10_v4 : Ref sig .tc := ⟨.hbm, 206, rfl⟩
abbrev main_call10_v5 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_c_16 : Ref sig .tc := ⟨.hbm, 218, rfl⟩
abbrev main_v113 : Ref sig .tc := ⟨.hbm, 219, rfl⟩
abbrev main_v114 : Ref sig .tc := ⟨.hbm, 220, rfl⟩
abbrev main_cst_17 : Ref sig .tc := ⟨.hbm, 221, rfl⟩
abbrev main_call11_v0 : Ref sig .tc := ⟨.hbm, 222, rfl⟩
abbrev main_call11_v1 : Ref sig .tc := ⟨.hbm, 223, rfl⟩
abbrev main_v115 : Ref sig .tc := ⟨.hbm, 224, rfl⟩
abbrev main_cst_18 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_call12_v0 : Ref sig .tc := ⟨.hbm, 235, rfl⟩
abbrev main_call12_v1 : Ref sig .tc := ⟨.hbm, 236, rfl⟩
abbrev main_call12_cst : Ref sig .tc := ⟨.hbm, 237, rfl⟩
abbrev main_call12_v2 : Ref sig .tc := ⟨.hbm, 238, rfl⟩
abbrev main_call12_v3 : Ref sig .tc := ⟨.hbm, 239, rfl⟩
abbrev main_call12_cst_0 : Ref sig .tc := ⟨.hbm, 240, rfl⟩
abbrev main_call12_v4 : Ref sig .tc := ⟨.hbm, 241, rfl⟩
abbrev main_call12_v5 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_c_19 : Ref sig .tc := ⟨.hbm, 253, rfl⟩
abbrev main_v135 : Ref sig .tc := ⟨.hbm, 254, rfl⟩
abbrev main_v136 : Ref sig .tc := ⟨.hbm, 255, rfl⟩
abbrev main_cst_20 : Ref sig .tc := ⟨.hbm, 256, rfl⟩
abbrev main_call13_v0 : Ref sig .tc := ⟨.hbm, 257, rfl⟩
abbrev main_call13_v1 : Ref sig .tc := ⟨.hbm, 258, rfl⟩
abbrev main_v137 : Ref sig .tc := ⟨.hbm, 259, rfl⟩
abbrev main_cst_21 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩
abbrev main_v142 : Ref sig .tc := ⟨.hbm, 265, rfl⟩
abbrev main_v143 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_call14_v0 : Ref sig .tc := ⟨.hbm, 270, rfl⟩
abbrev main_call14_v1 : Ref sig .tc := ⟨.hbm, 271, rfl⟩
abbrev main_call14_cst : Ref sig .tc := ⟨.hbm, 272, rfl⟩
abbrev main_call14_v2 : Ref sig .tc := ⟨.hbm, 273, rfl⟩
abbrev main_call14_v3 : Ref sig .tc := ⟨.hbm, 274, rfl⟩
abbrev main_call14_cst_0 : Ref sig .tc := ⟨.hbm, 275, rfl⟩
abbrev main_call14_v4 : Ref sig .tc := ⟨.hbm, 276, rfl⟩
abbrev main_call14_v5 : Ref sig .tc := ⟨.hbm, 277, rfl⟩
abbrev main_v147 : Ref sig .tc := ⟨.hbm, 278, rfl⟩
abbrev main_v148 : Ref sig .tc := ⟨.hbm, 279, rfl⟩
abbrev main_v149 : Ref sig .tc := ⟨.hbm, 280, rfl⟩
abbrev main_v150 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩
abbrev main_c_22 : Ref sig .tc := ⟨.hbm, 288, rfl⟩
abbrev main_v157 : Ref sig .tc := ⟨.hbm, 289, rfl⟩
abbrev main_v158 : Ref sig .tc := ⟨.hbm, 290, rfl⟩
abbrev main_cst_23 : Ref sig .tc := ⟨.hbm, 291, rfl⟩
abbrev main_call15_v0 : Ref sig .tc := ⟨.hbm, 292, rfl⟩
abbrev main_call15_v1 : Ref sig .tc := ⟨.hbm, 293, rfl⟩
abbrev main_v159 : Ref sig .tc := ⟨.hbm, 294, rfl⟩
abbrev main_cst_24 : Ref sig .tc := ⟨.hbm, 295, rfl⟩
abbrev main_v160 : Ref sig .tc := ⟨.hbm, 296, rfl⟩
abbrev main_v161 : Ref sig .tc := ⟨.hbm, 297, rfl⟩
abbrev main_v162 : Ref sig .tc := ⟨.hbm, 298, rfl⟩
abbrev main_v163 : Ref sig .tc := ⟨.hbm, 299, rfl⟩
abbrev main_v164 : Ref sig .tc := ⟨.hbm, 300, rfl⟩
abbrev main_v165 : Ref sig .tc := ⟨.hbm, 301, rfl⟩
abbrev main_v166 : Ref sig .tc := ⟨.hbm, 302, rfl⟩
abbrev main_v167 : Ref sig .tc := ⟨.hbm, 303, rfl⟩
abbrev main_v168 : Ref sig .tc := ⟨.hbm, 304, rfl⟩
abbrev main_call16_v0 : Ref sig .tc := ⟨.hbm, 305, rfl⟩
abbrev main_call16_v1 : Ref sig .tc := ⟨.hbm, 306, rfl⟩
abbrev main_call16_cst : Ref sig .tc := ⟨.hbm, 307, rfl⟩
abbrev main_call16_v2 : Ref sig .tc := ⟨.hbm, 308, rfl⟩
abbrev main_call16_v3 : Ref sig .tc := ⟨.hbm, 309, rfl⟩
abbrev main_call16_cst_0 : Ref sig .tc := ⟨.hbm, 310, rfl⟩
abbrev main_call16_v4 : Ref sig .tc := ⟨.hbm, 311, rfl⟩
abbrev main_call16_v5 : Ref sig .tc := ⟨.hbm, 312, rfl⟩
abbrev main_v169 : Ref sig .tc := ⟨.hbm, 313, rfl⟩
abbrev main_v170 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_v175 : Ref sig .tc := ⟨.hbm, 319, rfl⟩
abbrev main_v176 : Ref sig .tc := ⟨.hbm, 320, rfl⟩
abbrev main_v177 : Ref sig .tc := ⟨.hbm, 321, rfl⟩
abbrev main_v178 : Ref sig .tc := ⟨.hbm, 322, rfl⟩
abbrev main_c_25 : Ref sig .tc := ⟨.hbm, 323, rfl⟩
abbrev main_v179 : Ref sig .tc := ⟨.hbm, 324, rfl⟩
abbrev main_v180 : Ref sig .tc := ⟨.hbm, 325, rfl⟩
abbrev main_cst_26 : Ref sig .tc := ⟨.hbm, 326, rfl⟩
abbrev main_call17_v0 : Ref sig .tc := ⟨.hbm, 327, rfl⟩
abbrev main_call17_v1 : Ref sig .tc := ⟨.hbm, 328, rfl⟩
abbrev main_v181 : Ref sig .tc := ⟨.hbm, 329, rfl⟩
abbrev main_cst_27 : Ref sig .tc := ⟨.hbm, 330, rfl⟩
abbrev main_v182 : Ref sig .tc := ⟨.hbm, 331, rfl⟩
abbrev main_v183 : Ref sig .tc := ⟨.hbm, 332, rfl⟩
abbrev main_v184 : Ref sig .tc := ⟨.hbm, 333, rfl⟩
abbrev main_v185 : Ref sig .tc := ⟨.hbm, 334, rfl⟩
abbrev main_v186 : Ref sig .tc := ⟨.hbm, 335, rfl⟩
abbrev main_v187 : Ref sig .tc := ⟨.hbm, 336, rfl⟩
abbrev main_v188 : Ref sig .tc := ⟨.hbm, 337, rfl⟩
abbrev main_v189 : Ref sig .tc := ⟨.hbm, 338, rfl⟩
abbrev main_v190 : Ref sig .tc := ⟨.hbm, 339, rfl⟩
abbrev main_call18_v0 : Ref sig .tc := ⟨.hbm, 340, rfl⟩
abbrev main_call18_v1 : Ref sig .tc := ⟨.hbm, 341, rfl⟩
abbrev main_call18_cst : Ref sig .tc := ⟨.hbm, 342, rfl⟩
abbrev main_call18_v2 : Ref sig .tc := ⟨.hbm, 343, rfl⟩
abbrev main_call18_v3 : Ref sig .tc := ⟨.hbm, 344, rfl⟩
abbrev main_call18_cst_0 : Ref sig .tc := ⟨.hbm, 345, rfl⟩
abbrev main_call18_v4 : Ref sig .tc := ⟨.hbm, 346, rfl⟩
abbrev main_call18_v5 : Ref sig .tc := ⟨.hbm, 347, rfl⟩
abbrev main_v191 : Ref sig .tc := ⟨.hbm, 348, rfl⟩
abbrev main_v192 : Ref sig .tc := ⟨.hbm, 349, rfl⟩
abbrev main_v193 : Ref sig .tc := ⟨.hbm, 350, rfl⟩
abbrev main_v194 : Ref sig .tc := ⟨.hbm, 351, rfl⟩
abbrev main_v195 : Ref sig .tc := ⟨.hbm, 352, rfl⟩
abbrev main_v196 : Ref sig .tc := ⟨.hbm, 353, rfl⟩
abbrev main_v197 : Ref sig .tc := ⟨.hbm, 354, rfl⟩
abbrev main_v198 : Ref sig .tc := ⟨.hbm, 355, rfl⟩
abbrev main_v199 : Ref sig .tc := ⟨.hbm, 356, rfl⟩
abbrev main_v200 : Ref sig .tc := ⟨.hbm, 357, rfl⟩
abbrev main_c_28 : Ref sig .tc := ⟨.hbm, 358, rfl⟩
abbrev main_v201 : Ref sig .tc := ⟨.hbm, 359, rfl⟩
abbrev main_v202 : Ref sig .tc := ⟨.hbm, 360, rfl⟩
abbrev main_cst_29 : Ref sig .tc := ⟨.hbm, 361, rfl⟩
abbrev main_call19_v0 : Ref sig .tc := ⟨.hbm, 362, rfl⟩
abbrev main_call19_v1 : Ref sig .tc := ⟨.hbm, 363, rfl⟩
abbrev main_v203 : Ref sig .tc := ⟨.hbm, 364, rfl⟩
abbrev main_cst_30 : Ref sig .tc := ⟨.hbm, 365, rfl⟩
abbrev main_v204 : Ref sig .tc := ⟨.hbm, 366, rfl⟩
abbrev main_v205 : Ref sig .tc := ⟨.hbm, 367, rfl⟩
abbrev main_v206 : Ref sig .tc := ⟨.hbm, 368, rfl⟩
abbrev main_v207 : Ref sig .tc := ⟨.hbm, 369, rfl⟩
abbrev main_v208 : Ref sig .tc := ⟨.hbm, 370, rfl⟩
abbrev main_v209 : Ref sig .tc := ⟨.hbm, 371, rfl⟩
abbrev main_v210 : Ref sig .tc := ⟨.hbm, 372, rfl⟩
abbrev main_v211 : Ref sig .tc := ⟨.hbm, 373, rfl⟩
abbrev main_v212 : Ref sig .tc := ⟨.hbm, 374, rfl⟩
abbrev main_call20_v0 : Ref sig .tc := ⟨.hbm, 375, rfl⟩
abbrev main_call20_v1 : Ref sig .tc := ⟨.hbm, 376, rfl⟩
abbrev main_call20_cst : Ref sig .tc := ⟨.hbm, 377, rfl⟩
abbrev main_call20_v2 : Ref sig .tc := ⟨.hbm, 378, rfl⟩
abbrev main_call20_v3 : Ref sig .tc := ⟨.hbm, 379, rfl⟩
abbrev main_call20_cst_0 : Ref sig .tc := ⟨.hbm, 380, rfl⟩
abbrev main_call20_v4 : Ref sig .tc := ⟨.hbm, 381, rfl⟩
abbrev main_call20_v5 : Ref sig .tc := ⟨.hbm, 382, rfl⟩
abbrev main_v213 : Ref sig .tc := ⟨.hbm, 383, rfl⟩
abbrev main_v214 : Ref sig .tc := ⟨.hbm, 384, rfl⟩
abbrev main_v215 : Ref sig .tc := ⟨.hbm, 385, rfl⟩
abbrev main_v216 : Ref sig .tc := ⟨.hbm, 386, rfl⟩
abbrev main_v217 : Ref sig .tc := ⟨.hbm, 387, rfl⟩
abbrev main_v218 : Ref sig .tc := ⟨.hbm, 388, rfl⟩
abbrev main_v219 : Ref sig .tc := ⟨.hbm, 389, rfl⟩
abbrev main_v220 : Ref sig .tc := ⟨.hbm, 390, rfl⟩
abbrev main_v221 : Ref sig .tc := ⟨.hbm, 391, rfl⟩
abbrev main_v222 : Ref sig .tc := ⟨.hbm, 392, rfl⟩
abbrev main_c_31 : Ref sig .tc := ⟨.hbm, 393, rfl⟩
abbrev main_v223 : Ref sig .tc := ⟨.hbm, 394, rfl⟩
abbrev main_v224 : Ref sig .tc := ⟨.hbm, 395, rfl⟩
abbrev main_cst_32 : Ref sig .tc := ⟨.hbm, 396, rfl⟩
abbrev main_call21_v0 : Ref sig .tc := ⟨.hbm, 397, rfl⟩
abbrev main_call21_v1 : Ref sig .tc := ⟨.hbm, 398, rfl⟩
abbrev main_v225 : Ref sig .tc := ⟨.hbm, 399, rfl⟩
abbrev main_cst_33 : Ref sig .tc := ⟨.hbm, 400, rfl⟩
abbrev main_v226 : Ref sig .tc := ⟨.hbm, 401, rfl⟩
abbrev main_v227 : Ref sig .tc := ⟨.hbm, 402, rfl⟩
abbrev main_v228 : Ref sig .tc := ⟨.hbm, 403, rfl⟩
abbrev main_v229 : Ref sig .tc := ⟨.hbm, 404, rfl⟩
abbrev main_v230 : Ref sig .tc := ⟨.hbm, 405, rfl⟩
abbrev main_v231 : Ref sig .tc := ⟨.hbm, 406, rfl⟩

abbrev nD : Nat := 1
abbrev τ : Topo := Topo.v7x

variable {F : FTy → Type} [FloatOps F]
-- ==== Proof.IdealRouter.lean ====
/- The router region of the kernel, at any float semantics `F`: what its body leaves in the two output windows'
   buffers, and the pipeline's proof data and body obligation built on it. Stated over the buffer contents `V` at
   the region's entry, which the run instantiates. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` of the router's grid works on. -/
def rblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits the body stores: the product of the block of rows with the gate's weights. -/
def rLogits (x : Vec F S256x768 .f32) (g : Vec F S8x768 .f32) : Vec F S256x8 .f32 := k0_pay2 x g

/-- The routing weights the body stores: each selected expert's multiplier in its lane, zero elsewhere. -/
def rWeights (x : Vec F S256x768 .f32) (g : Vec F S8x768 .f32) : Vec F S256x8 .f32 :=
  k0_pay1 (k0_pay2 x g) (iota .tc S256x8 32 [1] iota_S256x8_d1_w32) (k0_pay4 x g) (k0_pay5 x g) (k0_pay6 x g) (k0_pay7 x g) (k0_pay8 x g)

theorem zero2 : (![0, 0] : Fin 2 → ℕ) = fun _ => 0 := by funext a; fin_cases a <;> rfl
theorem zero3 : (![0, 0, 0] : Fin 3 → ℕ) = fun _ => 0 := by funext a; fin_cases a <;> rfl

/-- The rectangle of a whole block of rows, and of the whole of the gate's weights. -/
abbrev rectX : Rect S256x768 := Rect.unit (s := S256x768) ![0, 0] S256x768.size inb_S256x768_S256x768_0_0
abbrev rectG : Rect S8x768 := Rect.unit (s := S8x768) ![0, 0] S8x768.size inb_S8x768_S8x768_0_0

/-- The logits of the inputs as the body loads them are those of the inputs. -/
theorem rLogits_ld (x : Vec F S256x768 .f32) (g : Vec F S8x768 .f32) :
    k0_pay2 (View.ld x rectX) (View.ld g rectG) = rLogits x g := by
  rw [View.ld_unit_zero zero2 _ x, View.ld_unit_zero zero2 _ g]; rfl

/-- The routing weights of the inputs as the body loads them are those of the inputs. -/
theorem rWeights_ld (x : Vec F S256x768 .f32) (g : Vec F S8x768 .f32) :
    k0_pay1 (k0_pay2 (View.ld x rectX) (View.ld g rectG)) (iota .tc S256x8 32 [1] iota_S256x8_d1_w32)
      (k0_pay4 (View.ld x rectX) (View.ld g rectG)) (k0_pay5 (View.ld x rectX) (View.ld g rectG))
      (k0_pay6 (View.ld x rectX) (View.ld g rectG)) (k0_pay7 (View.ld x rectX) (View.ld g rectG))
      (k0_pay8 (View.ld x rectX) (View.ld g rectG)) = rWeights x g := by
  rw [View.ld_unit_zero zero2 _ x, View.ld_unit_zero zero2 _ g]; rfl

/-- One store of a whole 256x8 buffer leaves its payload, whatever view the buffer is seen through. -/
theorem stored_rows {sp : Space} (v : View sig .tc sp S256x8 .f32) (f : v.ty.Contents (Elt F)) (p : Vec F S256x8 .f32) :
    v.read (Elt F) (v.writes (Elt F) f [⟨Rect.unit (s := S256x8) ![0, 0] S256x8.size inb_S256x8_S256x8_0_0, p⟩]) = p :=
  (View.read_writes_eq_canon _ _ _ (View.cover_of_tiled _ S256x8.size (by rfl))).trans (View.canon_unit_zero zero2 _ _)

set_option maxHeartbeats 1000000 in
/-- The router's body on whole staging buffers: from the inputs at `x` and `g` and the outputs at anything, it runs to
    the continuation with the inputs as they were and the outputs at `rLogits x g` and `rWeights x g`. -/
theorem router_body (c : Dev nD) (E : Set ℕ) (i : grid0.Coords) (arg1 : Memref sig .tc .vmem S256x768 .f32) (harg1 : arg1.IsWhole) (arg2 : Memref sig .tc .vmem S8x768 .f32) (harg2 : arg2.IsWhole) (arg3 : Memref sig .tc .vmem S256x8 .f32) (harg3 : arg3.IsWhole) (arg4 : Memref sig .tc .vmem S256x8 .f32) (harg4 : arg4.IsWhole)
    (x : Vec F S256x768 .f32) (g : Vec F S8x768 .f32) (K : PUnit → sProp 𝕄) :
    iprop(owns (c : Thread nD τ) arg1 fullShare x ∗ owns (c : Thread nD τ) arg2 fullShare g ∗ (∃ d, owns (c : Thread nD τ) arg3 fullShare d) ∗ (∃ d, owns (c : Thread nD τ) arg4 fullShare d)
        ∗ (iprop(owns (c : Thread nD τ) arg1 fullShare x ∗ owns (c : Thread nD τ) arg2 fullShare g ∗ owns (c : Thread nD τ) arg3 fullShare (rLogits x g) ∗ owns (c : Thread nD τ) arg4 fullShare (rWeights x g)) -∗ K ⟨⟩))
      ⊢ wp frame (wpE (defs₀ (F := F)) Variants.none c none) E (cc0__router_body i arg1 harg1 arg2 harg2 arg3 harg3 arg4 harg4) K := by
  simp only [cc0__router_body_eq_skeleton]; unfold cc0__router_body_skel
  simp only [k0_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (stored_rows _ _ _).trans (rLogits_ld _ _)
  iexists _; isplitr
  swap; · iexact H3
  ipureintro
  exact (stored_rows _ _ _).trans (rWeights_ld _ _)

/-- The router pipeline's proof data on core `c`: the arrays as the region finds them; after the body at point `t`
    each input's buffer at its block and the outputs' at the logits and weights of those blocks; nothing owed. -/
def rdat (c : Dev nD) : Dat τ (Elt F) Unit ℕ (UR sig nD τ) ℕ cfg0 c where
  A w := V c (Pipeline.arrRef spec0 w)
  after w t := match w with
    | ⟨0, _⟩ => rblk V c 0 t
    | ⟨1, _⟩ => rblk V c 1 t
    | ⟨2, _⟩ => rLogits (rblk V c 0 t) (rblk V c 1 t)
    | ⟨3, _⟩ => rWeights (rblk V c 0 t) (rblk V c 1 t)
  Φ _ := Pipeline.ΦA spec0 c
  q _ := fullShare
  owed _ := 0

/-- The proof data's arrays are the contents at entry. -/
theorem rdat_A (c : Dev nD) (w : Fin cfg0.W) : (rdat V c).A w = V c (Pipeline.arrRef spec0 w) := by dsimp only [rdat]

/-- After the body, window by window. -/
theorem rafter_0 (c : Dev nD) (t : Fin cfg0.N) : (rdat V c).after 0 t = rblk V c 0 t := by dsimp only [rdat]
theorem rafter_1 (c : Dev nD) (t : Fin cfg0.N) : (rdat V c).after 1 t = rblk V c 1 t := by dsimp only [rdat]
theorem rafter_2 (c : Dev nD) (t : Fin cfg0.N) : (rdat V c).after 2 t = rLogits (rblk V c 0 t) (rblk V c 1 t) := by dsimp only [rdat]
theorem rafter_3 (c : Dev nD) (t : Fin cfg0.N) : (rdat V c).after 3 t = rWeights (rblk V c 0 t) (rblk V c 1 t) := by dsimp only [rdat]

/-- Before the body the block of rows is in its buffer, -/
theorem rbefore_0 (c : Dev nD) (t : Fin cfg0.N) (d) : (rdat V c).before 0 t d = rblk V c 0 t :=
  ((rdat V c).before_in_eq_fetched 0 rfl (fun _ => rfl) (fun _ _ _ => rfl)
      (fun t => by rw [rafter_0]; unfold Dat.blockOf rblk; rw [rdat_A]; try rfl) t d).trans
    (by unfold Dat.fetched Dat.blockOf rblk; rw [rdat_A]; try rfl)
/-- and so are the gate's weights. -/
theorem rbefore_1 (c : Dev nD) (t : Fin cfg0.N) (d) : (rdat V c).before 1 t d = rblk V c 1 t :=
  ((rdat V c).before_in_eq_fetched 1 rfl (fun _ => rfl) (fun _ _ _ => rfl)
      (fun t => by rw [rafter_1]; unfold Dat.blockOf rblk; rw [rdat_A]; try rfl) t d).trans
    (by unfold Dat.fetched Dat.blockOf rblk; rw [rdat_A]; try rfl)

/-- What the body is called with at point `t`, window by window, -/
def rPre (c : Dev nD) (t : Fin cfg0.N) : sProp 𝕄 :=
  iprop((rdat V c).Φ t.castSucc ∗ (rdat V c).owesAt () t.castSucc
    ∗ (∃ d, owns (c : Thread nD τ) (st0_0 t) fullShare ((rdat V c).before 0 t d))
    ∗ (∃ d, owns (c : Thread nD τ) (st0_1 t) fullShare ((rdat V c).before 1 t d))
    ∗ (∃ d, owns (c : Thread nD τ) (st0_2 t) fullShare ((rdat V c).before 2 t d))
    ∗ (∃ d, owns (c : Thread nD τ) (st0_3 t) fullShare ((rdat V c).before 3 t d)))

/-- and what it returns. -/
def rPost (c : Dev nD) (t : Fin cfg0.N) : sProp 𝕄 :=
  iprop((rdat V c).Φ t.succ ∗ (rdat V c).owesAt () t.succ
    ∗ owns (c : Thread nD τ) (st0_0 t) fullShare ((rdat V c).after 0 t)
    ∗ owns (c : Thread nD τ) (st0_1 t) fullShare ((rdat V c).after 1 t)
    ∗ owns (c : Thread nD τ) (st0_2 t) fullShare ((rdat V c).after 2 t)
    ∗ owns (c : Thread nD τ) (st0_3 t) fullShare ((rdat V c).after 3 t))

/-- The router's body at any point of its grid. -/
theorem router_point (c : Dev nD) (t : Fin cfg0.N) :
    rPre V c t ⊢ wp frame (wpE (defs₀ (F := F)) Variants.none c none) Set.univ (bodyAt0 t) (fun _ => rPost V c t) := by
  unfold rPre rPost bodyAt0
  simp only [rbefore_0, rbefore_1]
  rw [show (rdat V c).Φ t.succ = (rdat V c).Φ t.castSucc from rfl,
    show (rdat V c).owesAt () t.succ = (rdat V c).owesAt () t.castSucc from rfl,
    rafter_0, rafter_1, rafter_2, rafter_3]
  iintro ⟨HΦ, Ho, ⟨%d0, H0⟩, ⟨%d1, H1⟩, ⟨%d2, H2⟩, ⟨%d3, H3⟩⟩
  iapply (router_body c Set.univ (grid0.coords t) _ _ _ _ _ _ _ _ (rblk V c 0 t) (rblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The router region's body obligation, at every point. -/
theorem router_obligation (c : Dev nD) : BodyObligation (rdat (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (router_point V c t) rfl .rfl fun _ => .rfl

end Cert.KernelIdeal.Run

end
-- ==== Proof.IdealExperts.lean ====
/- The expert region of the kernel, at any float semantics `F`: what its body leaves in the output window's buffer —
   the first expert's term where the expert coordinate is zero, and the running sum with the expert's term added where
   it is not —, and the pipeline's proof data and body obligation built on it. Stated over the buffer contents `V` at
   the region's entry, which the run instantiates. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Pipeline.TableIdle
public import Idealize.ShloMosaic.Lib.Tactic
public import Idealize.ShloMosaic.Lib.WordCmp
public import proofs.«01_k».proof.Proof.IdealRouter

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that point `t` of the experts' grid works on. -/
def eblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads through: each the whole of its buffer. -/
abbrev rectW : Rect S256x8 := Rect.unit (s := S256x8) ![0, 0] S256x8.size inb_S256x8_S256x8_0_0
abbrev rectUp : Rect S1x1536x768 := Rect.unit (s := S1x1536x768) ![0, 0, 0] S1x1536x768.size inb_S1x1536x768_S1x1536x768_0_0_0
abbrev rectDown : Rect S1x768x1536 := Rect.unit (s := S1x768x1536) ![0, 0, 0] S1x768x1536.size inb_S1x768x1536_S1x768x1536_0_0_0

/-- An expert's weighted term, of the inputs as the body loads them, is that of the inputs, -/
theorem term_ld (i : grid1.Coords) (x : Vec F S256x768 .f32) (w : Vec F S256x8 .f32) (a : Vec F S1x1536x768 .f32) (b : Vec F S1x1536x768 .f32) (d : Vec F S1x768x1536 .f32) :
    k1_pay1 i (View.ld x rectX) (View.ld a rectUp) (View.ld b rectUp) (View.ld d rectDown) (View.ld w rectW) = k1_pay1 i x a b d w := by
  rw [View.ld_unit_zero zero2 _ x, View.ld_unit_zero zero3 _ a, View.ld_unit_zero zero3 _ b, View.ld_unit_zero zero3 _ d, View.ld_unit_zero zero2 _ w]
/-- and so is the running sum with it added. -/
theorem next_ld (i : grid1.Coords) (x : Vec F S256x768 .f32) (w : Vec F S256x8 .f32) (a : Vec F S1x1536x768 .f32) (b : Vec F S1x1536x768 .f32) (d : Vec F S1x768x1536 .f32) (p : Vec F S256x768 .f32) :
    k1_pay2 i (View.ld x rectX) (View.ld a rectUp) (View.ld b rectUp) (View.ld d rectDown) (View.ld w rectW) (View.ld p rectX) = k1_pay2 i x a b d w p := by
  rw [View.ld_unit_zero zero2 _ x, View.ld_unit_zero zero3 _ a, View.ld_unit_zero zero3 _ b, View.ld_unit_zero zero3 _ d, View.ld_unit_zero zero2 _ w, View.ld_unit_zero zero2 _ p]

/-- One store of a whole 256x768 buffer leaves its payload, whatever view the buffer is seen through. -/
theorem stored_block {sp : Space} (v : View sig .tc sp S256x768 .f32) (f : v.ty.Contents (Elt F)) (p : Vec F S256x768 .f32) :
    v.read (Elt F) (v.writes (Elt F) f [⟨rectX, p⟩]) = p :=
  (View.read_writes_eq_canon _ _ _ (View.cover_of_tiled _ S256x768.size (by rfl))).trans (View.canon_unit_zero zero2 _ _)

/-! ## The body's two cases -/

/-- The body's first condition — the expert coordinate is zero — holds at the points that are multiples of 8. -/
theorem first_iff : ∀ t : Fin cfg1.N, k1_cond1 (grid1.coords t) = 1#1 ↔ t.val % 8 = 0 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [k1_cond1, e0, e1]
    word_cmp
   : ∀ t : Fin grid1.N, k1_cond1 (grid1.coords t) = 1#1 ↔ t.val % 8 = 0)
/-- Its second — the expert coordinate is positive — holds at the others. -/
theorem next_iff : ∀ t : Fin cfg1.N, k1_cond2 (grid1.coords t) = 1#1 ↔ t.val % 8 ≠ 0 :=
  (by decide +kernel : ∀ t : Fin grid1.N, k1_cond2 (grid1.coords t) = 1#1 ↔ t.val % 8 ≠ 0)

set_option maxHeartbeats 1000000 in
/-- The body where the expert coordinate is zero: the output's buffer, whatever it held, ends at the expert's term. -/
theorem first_body (c : Dev nD) (E : Set ℕ) (i : grid1.Coords) (arg2 : Memref sig .tc .vmem S256x768 .f32) (harg2 : arg2.IsWhole) (arg3 : Memref sig .tc .vmem S256x8 .f32) (harg3 : arg3.IsWhole) (arg4 : Memref sig .tc .vmem S1x1536x768 .f32) (harg4 : arg4.IsWhole) (arg5 : Memref sig .tc .vmem S1x1536x768 .f32) (harg5 : arg5.IsWhole) (arg6 : Memref sig .tc .vmem S1x768x1536 .f32) (harg6 : arg6.IsWhole) (arg7 : Memref sig .tc .vmem S256x768 .f32) (harg7 : arg7.IsWhole)
    (hc1 : k1_cond1 i = 1#1) (hc2 : ¬ k1_cond2 i = 1#1) (x : Vec F S256x768 .f32) (w : Vec F S256x8 .f32) (a : Vec F S1x1536x768 .f32) (b : Vec F S1x1536x768 .f32) (d : Vec F S1x768x1536 .f32) (K : PUnit → sProp 𝕄) :
    iprop(owns (c : Thread nD τ) arg2 fullShare x ∗ owns (c : Thread nD τ) arg3 fullShare w ∗ owns (c : Thread nD τ) arg4 fullShare a ∗ owns (c : Thread nD τ) arg5 fullShare b ∗ owns (c : Thread nD τ) arg6 fullShare d ∗ (∃ e, owns (c : Thread nD τ) arg7 fullShare e)
        ∗ (iprop(owns (c : Thread nD τ) arg2 fullShare x ∗ owns (c : Thread nD τ) arg3 fullShare w ∗ owns (c : Thread nD τ) arg4 fullShare a ∗ owns (c : Thread nD τ) arg5 fullShare b ∗ owns (c : Thread nD τ) arg6 fullShare d ∗ owns (c : Thread nD τ) arg7 fullShare (k1_pay1 i x a b d w)) -∗ K ⟨⟩))
      ⊢ wp frame (wpE (defs₀ (F := F)) Variants.none c none) E (cc1__moe_body i arg2 harg2 arg3 harg3 arg4 harg4 arg5 harg5 arg6 harg6 arg7 harg7) K := by
  simp only [cc1__moe_body_eq_skeleton]; unfold cc1__moe_body_skel
  unfold owns
  iintro ⟨⟨%f2, %hf2, H2⟩, ⟨%f3, %hf3, H3⟩, ⟨%f4, %hf4, H4⟩, ⟨%f5, %hf5, H5⟩, ⟨%f6, %hf6, H6⟩, ⟨%e7, %f7, -, H7⟩, Hk⟩
  subst hf2 hf3 hf4 hf5 hf6
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact (stored_block _ _ _).trans (term_ld _ _ _ _ _ _)

set_option maxHeartbeats 1000000 in
/-- The body where the expert coordinate is positive: the output's buffer ends at what it held with the expert's term added. -/
theorem next_body (c : Dev nD) (E : Set ℕ) (i : grid1.Coords) (arg2 : Memref sig .tc .vmem S256x768 .f32) (harg2 : arg2.IsWhole) (arg3 : Memref sig .tc .vmem S256x8 .f32) (harg3 : arg3.IsWhole) (arg4 : Memref sig .tc .vmem S1x1536x768 .f32) (harg4 : arg4.IsWhole) (arg5 : Memref sig .tc .vmem S1x1536x768 .f32) (harg5 : arg5.IsWhole) (arg6 : Memref sig .tc .vmem S1x768x1536 .f32) (harg6 : arg6.IsWhole) (arg7 : Memref sig .tc .vmem S256x768 .f32) (harg7 : arg7.IsWhole)
    (hc1 : ¬ k1_cond1 i = 1#1) (hc2 : k1_cond2 i = 1#1) (x : Vec F S256x768 .f32) (w : Vec F S256x8 .f32) (a : Vec F S1x1536x768 .f32) (b : Vec F S1x1536x768 .f32) (d : Vec F S1x768x1536 .f32) (p : Vec F S256x768 .f32) (K : PUnit → sProp 𝕄) :
    iprop(owns (c : Thread nD τ) arg2 fullShare x ∗ owns (c : Thread nD τ) arg3 fullShare w ∗ owns (c : Thread nD τ) arg4 fullShare a ∗ owns (c : Thread nD τ) arg5 fullShare b ∗ owns (c : Thread nD τ) arg6 fullShare d ∗ owns (c : Thread nD τ) arg7 fullShare p
        ∗ (iprop(owns (c : Thread nD τ) arg2 fullShare x ∗ owns (c : Thread nD τ) arg3 fullShare w ∗ owns (c : Thread nD τ) arg4 fullShare a ∗ owns (c : Thread nD τ) arg5 fullShare b ∗ owns (c : Thread nD τ) arg6 fullShare d ∗ owns (c : Thread nD τ) arg7 fullShare (k1_pay2 i x a b d w p)) -∗ K ⟨⟩))
      ⊢ wp frame (wpE (defs₀ (F := F)) Variants.none c none) E (cc1__moe_body i arg2 harg2 arg3 harg3 arg4 harg4 arg5 harg5 arg6 harg6 arg7 harg7) K := by
  simp only [cc1__moe_body_eq_skeleton]; unfold cc1__moe_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2 hf3 hf4 hf5 hf6 hf7
  sl_exec (disch := first | sl_exact hc1 | sl_exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact (stored_block _ _ _).trans (next_ld _ _ _ _ _ _ _)

/-! ## What the output's buffer holds after each point -/

/-- After point `n`: the first expert's term where the expert coordinate is zero, otherwise what the point before
    left with this expert's term added. -/
def eacc (c : Dev nD) : (n : ℕ) → n < cfg1.N → Vec F S256x768 .f32
  | 0, hn => k1_pay1 (grid1.coords ⟨0, hn⟩) (eblk V c 0 ⟨0, hn⟩) (eblk V c 2 ⟨0, hn⟩) (eblk V c 3 ⟨0, hn⟩) (eblk V c 4 ⟨0, hn⟩) (eblk V c 1 ⟨0, hn⟩)
  | n + 1, hn =>
    if (n + 1) % 8 = 0 then k1_pay1 (grid1.coords ⟨n + 1, hn⟩) (eblk V c 0 ⟨n + 1, hn⟩) (eblk V c 2 ⟨n + 1, hn⟩) (eblk V c 3 ⟨n + 1, hn⟩) (eblk V c 4 ⟨n + 1, hn⟩) (eblk V c 1 ⟨n + 1, hn⟩)
    else k1_pay2 (grid1.coords ⟨n + 1, hn⟩) (eblk V c 0 ⟨n + 1, hn⟩) (eblk V c 2 ⟨n + 1, hn⟩) (eblk V c 3 ⟨n + 1, hn⟩) (eblk V c 4 ⟨n + 1, hn⟩) (eblk V c 1 ⟨n + 1, hn⟩) (eacc c n (Nat.lt_of_succ_lt hn))

/-- At a point whose expert coordinate is zero the running sum is the expert's term; -/
theorem eacc_first (c : Dev nD) (t : Fin cfg1.N) (h : t.val % 8 = 0) :
    eacc V c t.val t.isLt = k1_pay1 (grid1.coords t) (eblk V c 0 t) (eblk V c 2 t) (eblk V c 3 t) (eblk V c 4 t) (eblk V c 1 t) := by
  obtain ⟨n, hn⟩ := t
  cases n with
  | zero => rfl
  | succ n => exact if_pos h
/-- at any other it is the point before's with the expert's term added. -/
theorem eacc_next (c : Dev nD) (t : Fin cfg1.N) (h : t.val % 8 ≠ 0) :
    eacc V c t.val t.isLt = k1_pay2 (grid1.coords t) (eblk V c 0 t) (eblk V c 2 t) (eblk V c 3 t) (eblk V c 4 t) (eblk V c 1 t)
      (eacc V c (t.val - 1) (Nat.lt_of_le_of_lt (Nat.sub_le _ _) t.isLt)) := by
  obtain ⟨n, hn⟩ := t
  cases n with
  | zero => exact absurd (Nat.zero_mod _) h
  | succ n => exact if_neg h

/-! ## The pipeline's proof data and the body obligation -/

/-- The experts' pipeline's proof data on core `c`: the arrays as the region finds them; after the body at point `t`
    each input's buffer at its block and the output's at the running sum; nothing owed. -/
def edat (c : Dev nD) : Dat τ (Elt F) Unit ℕ (UR sig nD τ) ℕ cfg1 c where
  A w := V c (Pipeline.arrRef spec1 w)
  after w t := match w with
    | ⟨0, _⟩ => eblk V c 0 t
    | ⟨1, _⟩ => eblk V c 1 t
    | ⟨2, _⟩ => eblk V c 2 t
    | ⟨3, _⟩ => eblk V c 3 t
    | ⟨4, _⟩ => eblk V c 4 t
    | ⟨5, _⟩ => eacc V c t.val t.isLt
  Φ _ := Pipeline.ΦA spec1 c
  q _ := fullShare
  owed _ := 0

/-- The proof data's arrays are the contents at entry. -/
theorem edat_A (c : Dev nD) (w : Fin cfg1.W) : (edat V c).A w = V c (Pipeline.arrRef spec1 w) := by dsimp only [edat]

/-- After the body, window by window. -/
theorem eafter_0 (c : Dev nD) (t : Fin cfg1.N) : (edat V c).after 0 t = eblk V c 0 t := by dsimp only [edat]
theorem eafter_1 (c : Dev nD) (t : Fin cfg1.N) : (edat V c).after 1 t = eblk V c 1 t := by dsimp only [edat]
theorem eafter_2 (c : Dev nD) (t : Fin cfg1.N) : (edat V c).after 2 t = eblk V c 2 t := by dsimp only [edat]
theorem eafter_3 (c : Dev nD) (t : Fin cfg1.N) : (edat V c).after 3 t = eblk V c 3 t := by dsimp only [edat]
theorem eafter_4 (c : Dev nD) (t : Fin cfg1.N) : (edat V c).after 4 t = eblk V c 4 t := by dsimp only [edat]
theorem eafter_5 (c : Dev nD) (t : Fin cfg1.N) : (edat V c).after 5 t = eacc V c t.val t.isLt := by dsimp only [edat]

/-- Before the body each input's buffer holds its block. -/
theorem ebefore_0 (c : Dev nD) (t : Fin cfg1.N) (d) : (edat V c).before 0 t d = eblk V c 0 t :=
  ((edat V c).before_in_eq_fetched 0 rfl (fun _ => rfl) (fun _ _ _ => rfl)
      (fun t => by rw [eafter_0]; unfold Dat.blockOf eblk; rw [edat_A]; try rfl) t d).trans
    (by unfold Dat.fetched Dat.blockOf eblk; rw [edat_A]; try rfl)
theorem ebefore_1 (c : Dev nD) (t : Fin cfg1.N) (d) : (edat V c).before 1 t d = eblk V c 1 t :=
  ((edat V c).before_in_eq_fetched 1 rfl (fun _ => rfl) (fun _ _ _ => rfl)
      (fun t => by rw [eafter_1]; unfold Dat.blockOf eblk; rw [edat_A]; try rfl) t d).trans
    (by unfold Dat.fetched Dat.blockOf eblk; rw [edat_A]; try rfl)
theorem ebefore_2 (c : Dev nD) (t : Fin cfg1.N) (d) : (edat V c).before 2 t d = eblk V c 2 t :=
  ((edat V c).before_in_eq_fetched 2 rfl (fun _ => rfl) (fun _ _ _ => rfl)
      (fun t => by rw [eafter_2]; unfold Dat.blockOf eblk; rw [edat_A]; try rfl) t d).trans
    (by unfold Dat.fetched Dat.blockOf eblk; rw [edat_A]; try rfl)
theorem ebefore_3 (c : Dev nD) (t : Fin cfg1.N) (d) : (edat V c).before 3 t d = eblk V c 3 t :=
  ((edat V c).before_in_eq_fetched 3 rfl (fun _ => rfl) (fun _ _ _ => rfl)
      (fun t => by rw [eafter_3]; unfold Dat.blockOf eblk; rw [edat_A]; try rfl) t d).trans
    (by unfold Dat.fetched Dat.blockOf eblk; rw [edat_A]; try rfl)
theorem ebefore_4 (c : Dev nD) (t : Fin cfg1.N) (d) : (edat V c).before 4 t d = eblk V c 4 t :=
  ((edat V c).before_in_eq_fetched 4 rfl (fun _ => rfl) (fun _ _ _ => rfl)
      (fun t => by rw [eafter_4]; unfold Dat.blockOf eblk; rw [edat_A]; try rfl) t d).trans
    (by unfold Dat.fetched Dat.blockOf eblk; rw [edat_A]; try rfl)

/-- The body stores into the output at every point: one of its two conditions holds. -/
theorem elive_5 : ∀ t : Fin cfg1.N, cfg1.idle 5 (grid1.coords t) = false := by decide +kernel
/-- No input is ever idle. -/
theorem elive_0 (t : Fin cfg1.N) : cfg1.idle 0 (grid1.coords t) = false := rfl
theorem elive_1 (t : Fin cfg1.N) : cfg1.idle 1 (grid1.coords t) = false := rfl
theorem elive_2 (t : Fin cfg1.N) : cfg1.idle 2 (grid1.coords t) = false := rfl
theorem elive_3 (t : Fin cfg1.N) : cfg1.idle 3 (grid1.coords t) = false := rfl
theorem elive_4 (t : Fin cfg1.N) : cfg1.idle 4 (grid1.coords t) = false := rfl

/-- Whether the output's buffer holds nothing stored since the region's entry or the last write-back, at position
    `n`: at the multiples of 8, where a block of rows begins. -/
def freshAt : ℕ → Bool := fun n => n % 8 == 0
theorem freshAt_step : ∀ t : Fin cfg1.N,
    freshAt (t.val + 1) = ((cfg1.win 5).flush t || (cfg1.idle 5 (cfg1.grid.coords t) && freshAt t.val)) := by decide +kernel
theorem fresh_eq (t : Fin cfg1.N) : cfg1.fresh 5 t.val = freshAt t.val :=
  Pipeline.Cfg.fresh_tab cfg1 5 freshAt rfl freshAt_step t.val (Nat.le_of_lt t.isLt)

/-- Where the expert coordinate is positive the output's buffer holds what the point before left. -/
theorem ebefore_5 (c : Dev nD) (t : Fin cfg1.N) (h : t.val % 8 ≠ 0) (d) :
    (edat V c).before 5 t d = eacc V c (t.val - 1) (Nat.lt_of_le_of_lt (Nat.sub_le _ _) t.isLt) := by
  rw [Dat.before_out_traj _ 5 rfl (fun _ _ => rfl)
      (fun s _ hi _ => absurd ((elive_5 s).symm.trans hi) Bool.false_ne_true) t.val t rfl d,
    if_neg (by rw [fresh_eq]; unfold freshAt; simpa using h)]
  dsimp only [edat]

/-- What the body is called with at point `t`, window by window, -/
def ePre (c : Dev nD) (t : Fin cfg1.N) : sProp 𝕄 :=
  iprop((edat V c).Φ t.castSucc ∗ (edat V c).owesAt () t.castSucc
    ∗ (∃ d, owns (c : Thread nD τ) (st1_0 t) fullShare ((edat V c).before 0 t d))
    ∗ (∃ d, owns (c : Thread nD τ) (st1_1 t) fullShare ((edat V c).before 1 t d))
    ∗ (∃ d, owns (c : Thread nD τ) (st1_2 t) fullShare ((edat V c).before 2 t d))
    ∗ (∃ d, owns (c : Thread nD τ) (st1_3 t) fullShare ((edat V c).before 3 t d))
    ∗ (∃ d, owns (c : Thread nD τ) (st1_4 t) fullShare ((edat V c).before 4 t d))
    ∗ (∃ d, owns (c : Thread nD τ) (st1_5 t) fullShare ((edat V c).before 5 t d)))

/-- and what it returns. -/
def ePost (c : Dev nD) (t : Fin cfg1.N) : sProp 𝕄 :=
  iprop((edat V c).Φ t.succ ∗ (edat V c).owesAt () t.succ
    ∗ (edat V c).leavesExact 0 t
    ∗ (edat V c).leavesExact 1 t
    ∗ (edat V c).leavesExact 2 t
    ∗ (edat V c).leavesExact 3 t
    ∗ (edat V c).leavesExact 4 t
    ∗ (edat V c).leavesExact 5 t)

/-- A window the body never leaves idle is handed back at its contents after the body. -/
theorem leaves_of_live (c : Dev nD) (w : Fin cfg1.W) (t : Fin cfg1.N) (h : cfg1.idle w (grid1.coords t) = false) :
    (edat V c).leavesExact w t = owns (c : Thread nD τ) ((cfg1.win w).stage (cfg1.slots t w)) fullShare ((edat V c).after w t) := by
  unfold Dat.leavesExact; rw [h]

set_option maxHeartbeats 800000 in
/-- The experts' body at any point of its grid. -/
theorem expert_point (c : Dev nD) (t : Fin cfg1.N) :
    ePre V c t ⊢ wp frame (wpE (defs₀ (F := F)) Variants.none c none) Set.univ (bodyAt1 t) (fun _ => ePost V c t) := by
  unfold ePre ePost bodyAt1
  simp only [ebefore_0, ebefore_1, ebefore_2, ebefore_3, ebefore_4]
  rw [show (edat V c).Φ t.succ = (edat V c).Φ t.castSucc from rfl,
    show (edat V c).owesAt () t.succ = (edat V c).owesAt () t.castSucc from rfl,
    leaves_of_live V c 0 t (elive_0 t), leaves_of_live V c 1 t (elive_1 t), leaves_of_live V c 2 t (elive_2 t),
    leaves_of_live V c 3 t (elive_3 t), leaves_of_live V c 4 t (elive_4 t), leaves_of_live V c 5 t (elive_5 t),
    eafter_0, eafter_1, eafter_2, eafter_3, eafter_4, eafter_5]
  by_cases h : t.val % 8 = 0
  · rw [eacc_first V c t h]
    iintro ⟨HΦ, Ho, ⟨%d0, H0⟩, ⟨%d1, H1⟩, ⟨%d2, H2⟩, ⟨%d3, H3⟩, ⟨%d4, H4⟩, ⟨%d5, H5⟩⟩
    iapply (first_body c Set.univ (grid1.coords t) _ _ _ _ _ _ _ _ _ _ _ _ ((first_iff t).mpr h) (fun e => (next_iff t).mp e h)
      (eblk V c 0 t) (eblk V c 1 t) (eblk V c 2 t) (eblk V c 3 t) (eblk V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [eacc_next V c t h]
    simp only [ebefore_5 V c t h]
    iintro ⟨HΦ, Ho, ⟨%d0, H0⟩, ⟨%d1, H1⟩, ⟨%d2, H2⟩, ⟨%d3, H3⟩, ⟨%d4, H4⟩, ⟨%d5, H5⟩⟩
    iapply (next_body c Set.univ (grid1.coords t) _ _ _ _ _ _ _ _ _ _ _ _ (fun e => h ((first_iff t).mp e)) ((next_iff t).mpr h)
      (eblk V c 0 t) (eblk V c 1 t) (eblk V c 2 t) (eblk V c 3 t) (eblk V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The experts' region's body obligation, at every point. -/
theorem expert_obligation (c : Dev nD) : BodyObligation (edat (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (expert_point V c t) rfl .rfl fun _ => .rfl

end Cert.KernelIdeal.Run

end
-- ==== Proof.IdealRun.lean ====
/- The whole run of the kernel, at any float semantics `F`: @main is a reshape, the router's region, the experts' region
   and a reshape. The buffer contents at each boundary are a fold from the launch memory; every execution ends, with the
   arguments as launched, the semaphore counters at zero and the two results at the last boundary's contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Pipeline.RegionsLoop
public import Idealize.ShloMosaic.Lib.Pipeline.FrameSuffix
public import Idealize.ShloMosaic.Lib.Tactic
public import proofs.«01_k».proof.Proof.IdealExperts

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4]

/-- Neither reshape allocates a buffer; each writes one array, which is no argument. -/
theorem pre_fresh : (hostOps0 : List (HloOp τ sig (Elt F))).Forall fun op => op.fresh = ∅ := by
  simp only [List.Forall]; repeat' constructor
abbrev preWrites : List (Ref sig .tc) := [main_call0_v0]
theorem pre_writes : (hostOps0 : List (HloOp τ sig (Elt F))).Forall fun op => op.writes ⊆ (preWrites.map (Proc.devRef (τ := τ) .tc)).toFinset :=
  StableHlo.forall_writes_sub_of_map rfl
theorem pre_args : ∀ a ∈ argRefs, a ∉ preWrites := ListAll.forall_mem_of_all_decide (by decide +kernel)
theorem post_fresh : (hostOps2 : List (HloOp τ sig (Elt F))).Forall fun op => op.fresh = ∅ := by
  simp only [List.Forall]; repeat' constructor
abbrev postWrites : List (Ref sig .tc) := [main_v0_0]
theorem post_writes : (hostOps2 : List (HloOp τ sig (Elt F))).Forall fun op => op.writes ⊆ (postWrites.map (Proc.devRef (τ := τ) .tc)).toFinset :=
  StableHlo.forall_writes_sub_of_map rfl
theorem post_args : ∀ a ∈ argRefs, a ∉ postWrites := ListAll.forall_mem_of_all_decide (by decide +kernel)

/-! ## The buffer contents at each boundary -/

/-- At launch. -/
abbrev atLaunch : Dev nD → Valuation τ sig (Elt F) := fun c b => (s₀ m ρ).mem ((c : Dev nD), b)
/-- When the router's region is entered: after the reshape of the rows. -/
abbrev atRouter : Dev nD → Valuation τ sig (Elt F) := fun c => StableHlo.after hostOps0 (atLaunch m ρ c)
abbrev VR : (c : Dev nD) → (b : Ref sig .tc) → Buf (Elt F) ((c : Thread nD τ).loc b) := fun c b => atRouter m ρ c b
/-- When the experts' region is entered: the router's arrays at what its pipeline leaves, the rest as before. -/
def atExperts (c : Dev nD) : Valuation τ sig (Elt F) :=
  Pipeline.withArrays spec0 c (atRouter m ρ c) fun w => (rdat (VR m ρ) c).arrAt w cfg0.N
abbrev VE : (c : Dev nD) → (b : Ref sig .tc) → Buf (Elt F) ((c : Thread nD τ).loc b) := fun c b => atExperts m ρ c b
/-- When the experts' region is left. -/
def atReturn (c : Dev nD) : Valuation τ sig (Elt F) :=
  Pipeline.withArrays spec1 c (atExperts m ρ c) fun w => (edat (VE m ρ) c).arrAt w cfg1.N
abbrev VP : (c : Dev nD) → (b : Ref sig .tc) → Buf (Elt F) ((c : Thread nD τ).loc b) := fun c b => atReturn m ρ c b
/-- At the end: after the reshape of the output. -/
abbrev atEnd : Dev nD → Valuation τ sig (Elt F) := fun c => StableHlo.after hostOps2 (atReturn m ρ c)

theorem atRouter_of (c : Dev nD) (r : Ref sig .tc) (h : r ∉ preWrites) : atRouter m ρ c (Proc.devRef .tc r) = atLaunch m ρ c (Proc.devRef .tc r) :=
  StableHlo.after_of_writes_sub hostOps0 _ pre_writes h

/-- At the router's region's exit each of its arrays holds what its pipeline leaves, -/
theorem atExperts_arr (c : Dev nD) (w : Fin cfg0.W) :
    atExperts m ρ c (Proc.devRef .tc (Pipeline.arrRef spec0 w)) = (rdat (VR m ρ) c).arrAt w cfg0.N := by
  unfold atExperts; exact Pipeline.withArrays_arr spec0 launch0.win.arr_inj c _ _ w
/-- any other buffer what it held at entry, -/
theorem atExperts_of_ne (c : Dev nD) (b : Ref sig .tc) (hb : ∀ w, Pipeline.arrRef spec0 w ≠ b) :
    atExperts m ρ c (Proc.devRef .tc b) = atRouter m ρ c (Proc.devRef .tc b) := by
  unfold atExperts; exact Pipeline.withArrays_of_ne spec0 c _ _ b hb
/-- and so does any array that is not an output of it. -/
theorem atExperts_of (c : Dev nD) (r : Ref sig .tc) (h : ∀ w : Fin cfg0.W, Pipeline.arrRef spec0 w = r → (cfg0.win w).isOut = false) :
    atExperts m ρ c (Proc.devRef .tc r) = atRouter m ρ c (Proc.devRef .tc r) := by
  by_cases hw : ∃ w : Fin cfg0.W, Pipeline.arrRef spec0 w = r
  · obtain ⟨w, rfl⟩ := hw
    exact (atExperts_arr m ρ c w).trans (((rdat (VR m ρ) c).arrAt_in w (h w rfl) _).trans (rdat_A (VR m ρ) c w))
  · exact atExperts_of_ne m ρ c r fun w e => hw ⟨w, e⟩
theorem atExperts_args : ∀ a ∈ argRefs, ∀ w : Fin cfg0.W, Pipeline.arrRef spec0 w = a → (cfg0.win w).isOut = false :=
  ListAll.forall_mem_of_all_decide (by decide +kernel)

/-- At the experts' region's exit each of its arrays holds what its pipeline leaves, -/
theorem atReturn_arr (c : Dev nD) (w : Fin cfg1.W) :
    atReturn m ρ c (Proc.devRef .tc (Pipeline.arrRef spec1 w)) = (edat (VE m ρ) c).arrAt w cfg1.N := by
  unfold atReturn; exact Pipeline.withArrays_arr spec1 launch1.win.arr_inj c _ _ w
/-- any other buffer what it held at entry, -/
theorem atReturn_of_ne (c : Dev nD) (b : Ref sig .tc) (hb : ∀ w, Pipeline.arrRef spec1 w ≠ b) :
    atReturn m ρ c (Proc.devRef .tc b) = atExperts m ρ c (Proc.devRef .tc b) := by
  unfold atReturn; exact Pipeline.withArrays_of_ne spec1 c _ _ b hb
/-- and so does any array that is not an output of it. -/
theorem atReturn_of (c : Dev nD) (r : Ref sig .tc) (h : ∀ w : Fin cfg1.W, Pipeline.arrRef spec1 w = r → (cfg1.win w).isOut = false) :
    atReturn m ρ c (Proc.devRef .tc r) = atExperts m ρ c (Proc.devRef .tc r) := by
  by_cases hw : ∃ w : Fin cfg1.W, Pipeline.arrRef spec1 w = r
  · obtain ⟨w, rfl⟩ := hw
    exact (atReturn_arr m ρ c w).trans (((edat (VE m ρ) c).arrAt_in w (h w rfl) _).trans (edat_A (VE m ρ) c w))
  · exact atReturn_of_ne m ρ c r fun w e => hw ⟨w, e⟩
theorem atReturn_args : ∀ a ∈ argRefs, ∀ w : Fin cfg1.W, Pipeline.arrRef spec1 w = a → (cfg1.win w).isOut = false :=
  ListAll.forall_mem_of_all_decide (by decide +kernel)

theorem atEnd_of (c : Dev nD) (r : Ref sig .tc) (h : r ∉ postWrites) : atEnd m ρ c (Proc.devRef .tc r) = atReturn m ρ c (Proc.devRef .tc r) :=
  StableHlo.after_of_writes_sub hostOps2 _ post_writes h

/-- Every argument is, when the experts' region is entered, as launched, -/
theorem atExperts_arg (c : Dev nD) : ∀ a ∈ argRefs, atExperts m ρ c (Proc.devRef .tc a) = m ((c : Thread nD τ).loc a) :=
  fun a ha => (atExperts_of m ρ c a (atExperts_args a ha)).trans (atRouter_of m ρ c a (pre_args a ha))
/-- and at the end. -/
theorem atEnd_arg (c : Dev nD) : ∀ a ∈ argRefs, atEnd m ρ c (Proc.devRef .tc a) = m ((c : Thread nD τ).loc a) :=
  fun a ha => (atEnd_of m ρ c a (post_args a ha)).trans ((atReturn_of m ρ c a (atReturn_args a ha)).trans (atExperts_arg m ρ c a ha))

/-! ## The segments -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => rdat (VR m ρ) c
  | ⟨1, _⟩ => fun c => edat (VE m ρ) c
abbrev 𝒱₀ : Variants := Variants.none
abbrev L : GSem nD τ sig → Finset Unit := fun _ => ∅
abbrev lv : GSem nD τ sig → Unit → ℕ := fun _ _ => 0
/-- What rides along beside the buffers: the generator's register, and nothing owed. -/
abbrev Rest (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at its final contents. -/
abbrev Tₙ (c : Dev nD) : sProp 𝕄 := iprop(StableHlo.held (c : Thread nD τ) (Pipeline.ucRefs τ sig) (atEnd m ρ c) ∗ ∃ r, prngReg c r)

set_option backward.isDefEq.respectTransparency.types false in
/-- The router's region as a segment: entered with every unscoped buffer at `atRouter`, left with them at `atExperts`. -/
def routerSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (router_obligation (VR m ρ) c).loose
  hwaits := Pipeline.hwaits_of_owed_zero _ _ _ _ L lv 0 fun _ _ => rfl
  pre c := iprop(StableHlo.held (c : Thread nD τ) (Pipeline.ucRefs τ sig) (atRouter m ρ c) ∗ Rest c)
  post c := iprop(StableHlo.held (c : Thread nD τ) (Pipeline.ucRefs τ sig) (atExperts m ρ c) ∗ Rest c)
  X c := iprop(∃ r, prngReg c r)
  Y c := iprop(∃ r, prngReg c r)
  Z c := Pipeline.unscopedRest (Ix := Unit) (Name := ℕ) (U := UR sig nD τ) (Lvl := ℕ) spec0 c (VR m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VR m ρ c) (rdat_A (VR m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VR m ρ c) (VE m ρ c) ((pdats m ρ 0 c).arrAt · cfg0.N) (fun w => (atExperts_arr m ρ c w).symm)
      (fun b hb => atExperts_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The experts' region as a segment: entered with every unscoped buffer at `atExperts`, left with them at `atReturn`. -/
def expertSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (expert_obligation (VE m ρ) c).loose
  hwaits := Pipeline.hwaits_of_owed_zero _ _ _ _ L lv 1 fun _ _ => rfl
  pre c := iprop(StableHlo.held (c : Thread nD τ) (Pipeline.ucRefs τ sig) (atExperts m ρ c) ∗ Rest c)
  post c := iprop(StableHlo.held (c : Thread nD τ) (Pipeline.ucRefs τ sig) (atReturn m ρ c) ∗ Rest c)
  X c := iprop(∃ r, prngReg c r)
  Y c := iprop(∃ r, prngReg c r)
  Z c := Pipeline.unscopedRest (Ix := Unit) (Name := ℕ) (U := UR sig nD τ) (Lvl := ℕ) spec1 c (VE m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE m ρ c) (edat_A (VE m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE m ρ c) (VP m ρ c) ((pdats m ρ 1 c).arrAt · cfg1.N) (fun w => (atReturn_arr m ρ c w).symm)
      (fun b hb => atReturn_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's segments in order. -/
abbrev segs : List (Pipeline.Seg (pcfgs (F := F)) adm (pdats m ρ) () defs₀ 𝒱₀ L lv) :=
  [ .host (hseg hostOps0 hostOps0_sub pre_fresh (atLaunch m ρ)),
    .region (routerSeg m ρ),
    .region (expertSeg m ρ),
    .host (hseg hostOps2 hostOps2_sub post_fresh (atReturn m ρ)) ]
/-- @main is the run of its segments. -/
theorem main_run (c : Dev nD) : main (F := F) c = Pipeline.Seg.run (segs m ρ) := (main_chain c).trans (by chain_rfl)

theorem no_unscoped : ∀ sm : SemLoc sig, sm.isScoped .tc = true := by decide

theorem args_unscoped : ∀ a ∈ argRefs, ¬ (Proc.devRef .tc a : DevRef τ sig).isScoped := by decide

set_option backward.isDefEq.respectTransparency.types false in
/-- THE RUN: from any memory with zero counters every execution of @main on the TensorCores ends, nothing faulting, with
    the two results at their final contents, every argument as launched and every semaphore counter at zero. -/
theorem run_all : θ_run defs (onTc (τ := τ) (main (F := F))) ⟨m, fun _ => 0, ρ⟩ (fun r => (∀ c : Dev nD,
      r.2.mem ((c.tc : Thread nD τ).loc main_v0_0) = atEnd m ρ c (Proc.devRef .tc main_v0_0)
      ∧ r.2.mem ((c.tc : Thread nD τ).loc main_v0_1) = atEnd m ρ c (Proc.devRef .tc main_v0_1)
      ∧ ∀ a ∈ argRefs, r.2.mem ((c.tc : Thread nD τ).loc a) = m ((c.tc : Thread nD τ).loc a))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ Rest c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h hz => ⟨(fun c =>
      ⟨h c _ (mem_uc main_v0_0 (by decide)), h c _ (mem_uc main_v0_1 (by decide)),
       fun a ha => (h c _ (mem_uc a (args_unscoped a ha))).trans (atEnd_arg m ρ c a ha)⟩), funext fun g => hz g (.inr (no_unscoped g.2))⟩)

/-- THE FRAME: every execution ends, the arguments as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2.2 main_arg0 (by decide), (h.1 c).2.2 main_arg1 (by decide), (h.1 c).2.2 main_arg2 (by decide), (h.1 c).2.2 main_arg3 (by decide), (h.1 c).2.2 main_arg4 (by decide)⟩, h.2⟩) (run_all m ρ)

end Cert.KernelIdeal.Run

end
-- ==== Proof.Row.lean ====
/-
  One row of the router's eight logits, as extended reals: which two experts the row selects and the two weights it
  gives them. `Ranked s i j` says that `i` is the first position of the greatest logit and `j` the first position of the
  greatest among the others; `share t s b i` is the softmax entry at `i` of the logits `b` masked against the
  threshold `t`; `weight s i j` is the row of eight weights, zero but at `i` and `j`. The lemmas below read the searches
  two programs may use for these positions — a maximum and a least index over the lanes, or a stable descending sort —
  as `i` and `j`.
-/
module

public import Idealize.ShloMosaic.Lib.SortPrefix
public import Idealize.ShloMosaic.Lib.Pointwise
public import Idealize.ShloMosaic.PureOps.Ideal.Laws

@[expose] public section

noncomputable section

namespace Cert.Row

open Idealize.ShloMosaic

/-- Position `i` is the first greatest entry of the row `s`, and `j` the first greatest of the remaining ones. -/
structure Ranked (s : Fin 8 → EReal) (i j : Fin 8) : Prop where
  fst_max : ∀ k, s k ≤ s i
  fst_first : ∀ k, s k = s i → i ≤ k
  ne : j ≠ i
  snd_max : ∀ k, k ≠ i → s k ≤ s j
  snd_first : ∀ k, k ≠ i → s k = s j → j ≤ k

/-- Among the positions of a nonempty set there is a first greatest one. -/
theorem exists_first_max (s : Fin 8 → EReal) (T : Finset (Fin 8)) (hT : T.Nonempty) :
    ∃ i ∈ T, (∀ k ∈ T, s k ≤ s i) ∧ ∀ k ∈ T, s k = s i → i ≤ k := by
  obtain ⟨p, hp, hmax⟩ := T.exists_max_image s hT
  have hne : (T.filter fun k => s k = s p).Nonempty := ⟨p, Finset.mem_filter.mpr ⟨hp, rfl⟩⟩
  have hmem := Finset.mem_filter.mp (Finset.min'_mem _ hne)
  refine ⟨(T.filter fun k => s k = s p).min' hne, hmem.1, fun k hk => ?_, fun k hk e => ?_⟩
  · rw [hmem.2]; exact hmax k hk
  · exact Finset.min'_le _ _ (Finset.mem_filter.mpr ⟨hk, e.trans hmem.2⟩)

/-- Every row has its first and its second position. -/
theorem exists_ranked (s : Fin 8 → EReal) : ∃ i j, Ranked s i j := by
  obtain ⟨i, -, him, hif⟩ := exists_first_max s Finset.univ Finset.univ_nonempty
  obtain ⟨j, hj, hjm, hjf⟩ := exists_first_max s (Finset.univ.erase i) (by
    rw [← Finset.card_pos, Finset.card_erase_of_mem (Finset.mem_univ i)]; simp)
  have mem : ∀ k, k ≠ i → k ∈ Finset.univ.erase i := fun k hk => Finset.mem_erase.mpr ⟨hk, Finset.mem_univ k⟩
  exact ⟨i, j, fun k => him k (Finset.mem_univ k), fun k => hif k (Finset.mem_univ k), (Finset.mem_erase.mp hj).1,
    fun k hk => hjm k (mem k hk), fun k hk => hjf k (mem k hk)⟩

/-! ## Constants -/

/-- The word `0xFF800000` denotes minus infinity. -/
theorem negInf : Ideal.ofBits .f32 0xFF800000#32 = ⊥ := by simp [Ideal.ofBits, Ideal.ieee]

/-- The mask's bound, the word `0x3CA3D70A` (0.02), is not negative. -/
theorem bound_nonneg : (0 : EReal) ≤ Ideal.ofBits .f32 0x3CA3D70A#32 := by
  simp [Ideal.ofBits, Ideal.ieee, -EReal.coe_mul]

/-! ## The weights -/

/-- The logits `b` with every position dropped to minus infinity where the logit `s` lies too far below `t`: where
    `(t - s) / max |s| t` exceeds 0.02. -/
def masked (t : EReal) (s b : Fin 8 → EReal) (k : Fin 8) : EReal :=
  if Ideal.ofBits .f32 0x3CA3D70A#32 < Ideal.div (t - s k) (max (FloatOps.absf (F := Ideal) (φ := .f32) (s k)) t) then ⊥ else b k

/-- The softmax entry at `i` of the masked logits, computed about `t`. -/
def share (t : EReal) (s b : Fin 8 → EReal) (i : Fin 8) : EReal :=
  Ideal.div (Ideal.exp (masked t s b i - t)) (∑ k : Fin 8, Ideal.exp (masked t s b k - t))

/-- The row with position `i` dropped to minus infinity. -/
def without (s : Fin 8 → EReal) (i k : Fin 8) : EReal := if k = i then ⊥ else s k

/-- The row's eight weights: the two shares at the two selected positions, zero elsewhere. -/
def weight (s : Fin 8 → EReal) (i j e : Fin 8) : EReal :=
  (if e = i then share (s i) s s i else 0) + (if e = j then share (s j) s (without s i) j else 0)

/-- A real number lies nowhere below itself, so the mask keeps it. -/
theorem masked_self (s b : Fin 8 → EReal) (i : Fin 8) (hb : s i ≠ ⊥) (ht : s i ≠ ⊤) : masked (s i) s b i = b i := by
  unfold masked
  refine if_neg (not_lt.mpr ?_)
  rw [EReal.sub_self ht hb]
  refine le_trans ?_ bound_nonneg
  unfold Ideal.div
  split
  · simp
  · simp

/-- Masking only lowers. -/
theorem masked_le (t : EReal) (s b : Fin 8 → EReal) (k : Fin 8) : masked t s b k ≤ b k := by
  unfold masked; split
  · exact bot_le
  · exact le_rfl

/-- The maximum over a row is its entry at a position nothing exceeds. -/
theorem fold_max_eq (s : Fin 8 → EReal) (i : Fin 8) (h : ∀ k, s k ≤ s i) :
    Finset.univ.fold max (⊥ : EReal) s = s i := by
  refine le_antisymm ?_ ?_
  · exact (Finset.fold_max_le _).mpr ⟨bot_le, fun k _ => h k⟩
  · exact (Finset.le_fold_max _).mpr (Or.inr ⟨i, Finset.mem_univ i, le_rfl⟩)

/-- The greatest masked logit is the logit the mask is taken against, when the logits it masks are greatest there. -/
theorem fold_max_masked (s b : Fin 8 → EReal) (i : Fin 8) (hb : s i ≠ ⊥) (ht : s i ≠ ⊤) (hi : b i = s i)
    (h : ∀ k, b k ≤ s i) : Finset.univ.fold max (⊥ : EReal) (masked (s i) s b) = s i := by
  have hself : masked (s i) s b i = s i := (masked_self s b i hb ht).trans hi
  rw [fold_max_eq (masked (s i) s b) i fun k => ?_, hself]
  rw [hself]; exact (masked_le _ _ _ _).trans (h k)

/-- The row without its first position is greatest at its second. -/
theorem without_max {s : Fin 8 → EReal} {i j : Fin 8} (h : Ranked s i j) (k : Fin 8) : without s i k ≤ s j := by
  unfold without; split
  · exact bot_le
  · rename_i hk; exact h.snd_max k hk

/-- Away from its first position the row is unchanged. -/
theorem without_snd {s : Fin 8 → EReal} {i j : Fin 8} (h : Ranked s i j) : without s i j = s j := if_neg h.ne

/-- When the second greatest logit is not minus infinity, the second position is the first place where the row without
    its first position is greatest. -/
theorem without_first {s : Fin 8 → EReal} {i j : Fin 8} (h : Ranked s i j) (hb : s j ≠ ⊥) (k : Fin 8)
    (e : without s i k = s j) : j ≤ k := by
  unfold without at e
  split at e
  · exact absurd e.symm hb
  · rename_i hk; exact h.snd_first k hk e

/-- The first and the second position of a row. -/
def fst (s : Fin 8 → EReal) : Fin 8 := (exists_ranked s).choose
def snd (s : Fin 8 → EReal) : Fin 8 := (exists_ranked s).choose_spec.choose
theorem ranked (s : Fin 8 → EReal) : Ranked s (fst s) (snd s) := (exists_ranked s).choose_spec.choose_spec

/-- The row's eight weights. -/
def weights (s : Fin 8 → EReal) (e : Fin 8) : EReal := weight s (fst s) (snd s) e

/-! ## An expert -/

/-- One feature of a gated expert's output for the token `x`: the hidden units' products of the swish of the first
    projection and the second projection, weighed by `w` and summed. -/
def expert (x : Fin 768 → EReal) (u v : Fin 1536 → Fin 768 → EReal) (w : Fin 1536 → EReal) : EReal :=
  ∑ f : Fin 1536, ((∑ q : Fin 768, x q * u f q) * Ideal.logistic (∑ q : Fin 768, x q * u f q) * ∑ q : Fin 768, x q * v f q) * w f

/-! ## Position words -/

/-- Position words of the eight lanes are equal only for equal lanes. -/
theorem word_inj (k l : Fin 8) : BitVec.ofNat 32 k.val = BitVec.ofNat 32 l.val ↔ k = l := by
  revert k l; decide

/-- A selection by equality of two position words is one by equality of the lanes. -/
theorem select_word {α : Type} (k l : Fin 8) (a b : α) :
    Scalar.select (IntOp.cmpi .eq (BitVec.ofNat 32 k.val) (BitVec.ofNat 32 l.val)) a b = if k = l then a else b := by
  have h : IntOp.cmpi .eq (BitVec.ofNat 32 k.val) (BitVec.ofNat 32 l.val) = if k = l then 1#1 else 0#1 := by
    revert k l; decide
  rw [h]
  by_cases e : k = l
  · rw [if_pos e, if_pos e]; rfl
  · rw [if_neg e, if_neg e]; rfl

/-- The least position word among the lanes a predicate marks is the first marked lane's. -/
theorem fold_min_eq (p : Fin 8 → Prop) [DecidablePred p] (i : Fin 8) (hi : p i) (h : ∀ k, p k → i ≤ k) :
    Finset.univ.fold IntOp.minsi (2147483647#32) (fun k : Fin 8 => if p k then BitVec.ofNat 32 k.val else 8#32)
      = BitVec.ofNat 32 i.val := by
  have hint : ∀ k : Fin 8, (BitVec.ofNat 32 k.val).toInt = (k.val : Int) := by decide
  apply BitVec.eq_of_toInt_eq
  refine le_antisymm ?_ ?_
  · refine (Finset.fold_op_rel_iff_or (op := IntOp.minsi) (r := fun x y : BitVec 32 => y.toInt ≤ x.toInt)
      (c := BitVec.ofNat 32 i.val) ?_).mpr (Or.inr ⟨i, Finset.mem_univ i, ?_⟩)
    · intro x y z
      unfold IntOp.minsi
      split <;> rename_i hs <;> simp only [BitVec.slt, decide_eq_true_eq] at hs <;> omega
    · rw [if_pos hi]
  · refine (Finset.fold_op_rel_iff_and (op := IntOp.minsi) (r := fun x y : BitVec 32 => x.toInt ≤ y.toInt)
      (c := BitVec.ofNat 32 i.val) ?_).mpr ⟨?_, fun k _ => ?_⟩
    · intro x y z
      unfold IntOp.minsi
      split <;> rename_i hs <;> simp only [BitVec.slt, decide_eq_true_eq] at hs <;> omega
    · rw [hint]
      have : (2147483647#32 : BitVec 32).toInt = 2147483647 := by decide
      omega
    · split
      · rename_i hk
        rw [hint, hint]; exact_mod_cast h k hk
      · rw [hint]
        have : (8#32 : BitVec 32).toInt = 8 := by decide
        omega

/-! ## The stable descending sort -/

/-- A stable sort asks its comparison only of an earlier element against a later one, so two comparisons that agree
    there (the later element first) sort the list alike. -/
theorem stableSort_congr_of_later {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Sorting the positions by a comparison of their entries is sorting them by that comparison and, on a tie, by the
    position: the sort is stable. -/
theorem sortedFrom_eq_then_position {n : Nat} (R : Fin n → Fin n → Bool) (s : Fin n → EReal) :
    sortedFrom R = sortedFrom fun k k' => R k k' || (decide (s k = s k') && decide (k < k')) := by
  have e : sortPositions n R = sortPositions n fun k k' => R k k' || (decide (s k = s k') && decide (k < k')) := by
    refine stableSort_congr_of_later _ _ _ ?_
    refine (List.pairwise_lt_finRange n).imp fun {a b} hab => ?_
    simp [not_lt.mpr hab.le]
  funext k
  unfold sortedFrom
  rw [List.get_of_eq e]
  rfl

/-- The row's positions sorted by greater entry first, ties in index order: the first is `i`, the second `j`. -/
theorem sortedFrom_ranked {s : Fin 8 → EReal} {i j : Fin 8} (h : Ranked s i j) (R : Fin 8 → Fin 8 → Bool)
    (hR : ∀ k k', R k k' = decide (s k' < s k)) (a : Fin 2) :
    sortedFrom R (a.castLE (by decide)) = ![i, j] a := by
  rw [sortedFrom_eq_then_position R s]
  have hB := StrictTotalBefore.of_key_then_position (n := 8) (κ := EReal) (fun x y => decide (y < x)) s
    (fun a => by simp) (fun a b c hab hbc => by simp only [decide_eq_true_eq] at *; exact hbc.trans hab)
    (fun a b => by simp only [decide_eq_true_eq]; rcases lt_trichotomy b a with h | h | h <;> simp [h])
  have hfun : (fun k k' => R k k' || (decide (s k = s k') && decide (k < k')))
      = fun k k' : Fin 8 => decide (s k' < s k) || (decide (s k = s k') && decide (k < k')) := by
    funext k k'; rw [hR]
  rw [hfun]
  refine hB.sortedFrom_eq_of_prefix (by decide) ![i, j] ?_ ?_ ?_ a
  · intro a b hab
    have hne := h.ne
    revert hab
    fin_cases a <;> fin_cases b <;> simp [hne, hne.symm]
  · intro a b hab
    have hlt : a.val < b.val := hab
    obtain rfl : a = 0 := Fin.ext (by show a.val = 0; omega)
    obtain rfl : b = 1 := Fin.ext (by show b.val = 1; omega)
    show (decide (s i < s j) || (decide (s j = s i) && decide (j < i))) = false
    simp only [Bool.or_eq_false_iff, Bool.and_eq_false_iff, decide_eq_false_iff_not, not_lt]
    refine ⟨h.fst_max j, ?_⟩
    exact (em (s j = s i)).symm.imp_right (h.fst_first j)
  · intro a p hp
    have hpi : p ≠ i := fun e => hp 0 e.symm
    simp only [Bool.or_eq_false_iff, Bool.and_eq_false_iff, decide_eq_false_iff_not, not_lt]
    have key : ∀ q : Fin 8, s p ≤ s q → (s p = s q → q ≤ p) → s p ≤ s q ∧ (¬ s p = s q ∨ q ≤ p) := fun q h1 h2 =>
      ⟨h1, (em (s p = s q)).symm.imp_right h2⟩
    fin_cases a
    · exact key i (h.fst_max p) (h.fst_first p)
    · exact key j (h.snd_max p hpi) (h.snd_first p hpi)

end Cert.Row

end
-- ==== Proof.IdealPayloads.lean ====
/-
  What the kernel's two bodies store, over the extended reals: the router's logits and routing weights row by row, and the
  experts' body's term and its addition to the sum so far.
-/
module

public import proofs.«01_k».proof.Proof.IdealExperts
public import proofs.«01_k».proof.Proof.Row
public import Idealize.ShloMosaic.Lib.Pointwise

@[expose] public section

set_option maxRecDepth 16384

noncomputable section

namespace Cert.KernelIdeal.Run

open Cert.KernelIdeal Cert.KernelIdeal.Gen Cert.Row
open Idealize.ShloMosaic Idealize.ShloMosaic.TcCoe

variable (x : Vec Ideal S256x768 .f32) (g : Vec Ideal S8x768 .f32)

/-- The logits of a row of the block. -/
def lrow (r : Fin 256) (k : Fin 8) : EReal := k0_pay2 (F := Ideal) x g (ix2 r k)

theorem lrow_def (r : Fin 256) (k : Fin 8) : lrow x g r k = k0_pay2 (F := Ideal) x g (ix2 r k) := rfl

/-- A logit is the product of the row with the expert's gate. -/
theorem rLogits_apply (r : Fin 256) (k : Fin 8) :
    rLogits x g (ix2 r k) = ∑ q : Fin 768, x (ix2 r q) * g (ix2 k q) := by
  pointwise [rLogits, k0_pay2]

variable {x g}

section
variable {r : Fin 256} {i j : Fin 8} (h : Ranked (lrow x g r) i j)
include h

/-- The row's maximum is its first logit in rank. -/
theorem pay3_apply (l : Fin 1) : k0_pay3 (F := Ideal) x g (ix2 r l) = lrow x g r i := by
  have e : k0_pay3 (F := Ideal) x g (ix2 r l)
      = Finset.univ.fold max (Ideal.ofBits .f32 0xFF800000#32) (fun k => k0_pay2 (F := Ideal) x g (ix2 r k)) := by
    pointwise [k0_pay3]
  rw [e, negInf]
  exact fold_max_eq _ i h.fst_max

/-- The lanes equal to the first index. -/
theorem pay4_apply (l : Fin 8) :
    k0_pay4 (F := Ideal) x g (ix2 r l) = IntOp.cmpi .eq (BitVec.ofNat 32 l.val) (BitVec.ofNat 32 i.val) := by
  have e : k0_pay4 (F := Ideal) x g (ix2 r l) = IntOp.cmpi .eq (BitVec.ofNat 32 l.val)
      (Finset.univ.fold IntOp.minsi 2147483647#32 (fun k : Fin 8 =>
        if k0_pay2 (F := Ideal) x g (ix2 r k) = k0_pay3 (F := Ideal) x g (ix2 r 0) then BitVec.ofNat 32 k.val else 8#32)) := by
    pointwise [k0_pay4]
  simp only [pay3_apply h, ← lrow_def] at e
  exact e.trans (congrArg (IntOp.cmpi .eq _) (fold_min_eq (fun k => lrow x g r k = lrow x g r i) i rfl h.fst_first))

/-- The first multiplier. -/
theorem pay5_apply (l : Fin 1) :
    k0_pay5 (F := Ideal) x g (ix2 r l) = share (lrow x g r i) (lrow x g r) (lrow x g r) i := by
  pointwise [k0_pay5]
  simp only [pay3_apply h, pay4_apply h, select_word, ← lrow_def, Finset.sum_ite_eq', Finset.mem_univ, if_true, negInf, share, masked]

/-- The row without its first. -/
theorem pay6_apply (l : Fin 8) : k0_pay6 (F := Ideal) x g (ix2 r l) = without (lrow x g r) i l := by
  pointwise [k0_pay6]
  simp only [pay4_apply h, select_word, ← lrow_def, negInf, without]

/-- The greatest of the row without its first is its second logit in rank. -/
theorem pay7_apply (l : Fin 1) : k0_pay7 (F := Ideal) x g (ix2 r l) = lrow x g r j := by
  have e : k0_pay7 (F := Ideal) x g (ix2 r l)
      = Finset.univ.fold max (Ideal.ofBits .f32 0xFF800000#32) (fun k => k0_pay6 (F := Ideal) x g (ix2 r k)) := by
    pointwise [k0_pay7]
  simp only [pay6_apply h, negInf] at e
  refine e.trans ?_
  rw [← without_snd h]
  exact fold_max_eq (without (lrow x g r) i) j fun k => (without_max h k).trans (without_snd h).ge

/-- The same, spread over the lanes. -/
theorem pay8_apply (l : Fin 8) : k0_pay8 (F := Ideal) x g (ix2 r l) = lrow x g r j := by
  refine Eq.trans ?_ (pay7_apply h 0)
  pointwise [k0_pay8, k0_pay7]

/-- The weights the router stores for a row: the two selected experts' shares, in their lanes. -/
theorem rWeights_apply (hb : lrow x g r j ≠ ⊥) (l : Fin 8) : rWeights x g (ix2 r l) = weight (lrow x g r) i j l := by
  have m : Finset.univ.fold IntOp.minsi 2147483647#32
      (fun k : Fin 8 => if without (lrow x g r) i k = lrow x g r j then BitVec.ofNat 32 k.val else 8#32) = BitVec.ofNat 32 j.val :=
    fold_min_eq (fun k => without (lrow x g r) i k = lrow x g r j) j (without_snd h) (without_first h hb)
  pointwise [rWeights, k0_pay1]
  simp only [pay4_apply h, pay5_apply h, pay6_apply h, pay7_apply h, pay8_apply h, ← lrow_def, m, select_word, Finset.sum_ite_eq',
    Finset.mem_univ, if_true, negInf, weight, share, masked]

end

/-! ## The experts' body -/

variable (i : grid1.Coords) (e : Fin 8) (x : Vec Ideal S256x768 .f32) (u v : Vec Ideal S1x1536x768 .f32) (d : Vec Ideal S1x768x1536 .f32)
  (w : Vec Ideal S256x8 .f32)

/-- The body's term at a row and a feature: the expert's output times the row's weight for it. -/
theorem term_apply (hi : (i 1).val = e.val) (r : Fin 256) (l : Fin 768) :
    k1_pay1 (F := Ideal) i x u v d w (ix2 r l)
      = expert (fun q => x (ix2 r q)) (fun f q => u (ix3 0 f q)) (fun f q => v (ix3 0 f q)) (fun f => d (ix3 0 l f)) * w (ix2 r e) := by
  pointwise [k1_pay1]
  simp only [hi, select_word, Finset.sum_ite_eq', Finset.mem_univ, if_true, expert]

/-- A later expert's body adds its term to the sum so far. -/
theorem next_apply (p : Vec Ideal S256x768 .f32) (r : Fin 256) (l : Fin 768) :
    k1_pay2 (F := Ideal) i x u v d w p (ix2 r l) = p (ix2 r l) + k1_pay1 (F := Ideal) i x u v d w (ix2 r l) := by
  pointwise [k1_pay2]

end Cert.KernelIdeal.Run

end
-- ==== Proof.IdealArrays.lean ====
/-
  The arrays the kernel's two regions leave, over the extended reals, as functions of the arrays they find: the router's
  logits and routing weights, and the experts' weighted outputs summed.
-/
module

public import proofs.«01_k».proof.Proof.IdealPayloads
public import Idealize.ShloMosaic.Lib.Pipeline.ValueKit

@[expose] public section

set_option maxRecDepth 16384

noncomputable section

namespace Cert.KernelIdeal.Run

open Cert.KernelIdeal Cert.KernelIdeal.Gen Cert.Row
open Idealize.ShloMosaic Idealize.ShloMosaic.TcCoe
open Idealize.ShloMosaic.Pipeline (Dat)

/-- Token `R`'s logits against the gate. -/
def logit (X : Vec Ideal S2048x768 .f32) (G : Vec Ideal S8x768 .f32) (R : Fin 2048) (k : Fin 8) : EReal :=
  ∑ q : Fin 768, X (ix2 R q) * G (ix2 k q)

/-- Every token's logits, -/
def logitsOf (X : Vec Ideal S2048x768 .f32) (G : Vec Ideal S8x768 .f32) : Vec Ideal S2048x8 .f32 :=
  fun i => logit X G (i 0) (i 1)

/-- every token's weights, -/
def weightsOf (X : Vec Ideal S2048x768 .f32) (G : Vec Ideal S8x768 .f32) : Vec Ideal S2048x8 .f32 :=
  fun i => weights (logit X G (i 0)) (i 1)

/-- one expert's term of the result at a token and a feature, -/
def termOf (X : Vec Ideal S2048x768 .f32) (W : Vec Ideal S2048x8 .f32) (U V : Vec Ideal S8x1536x768 .f32) (D : Vec Ideal S8x768x1536 .f32)
    (R : Fin 2048) (l : Fin 768) (e : Fin 8) : EReal :=
  expert (fun q => X (ix2 R q)) (fun f q => U (ix3 e f q)) (fun f q => V (ix3 e f q)) (fun f => D (ix3 e l f)) * W (ix2 R e)

/-- and the terms summed over the experts. -/
def resultOf (X : Vec Ideal S2048x768 .f32) (W : Vec Ideal S2048x8 .f32) (U V : Vec Ideal S8x1536x768 .f32) (D : Vec Ideal S8x768x1536 .f32) :
    Vec Ideal S2048x768 .f32 :=
  fun i => ∑ e : Fin 8, termOf X W U V D (i 0) (i 1) e

variable (V : (c : Dev nD) → (b : Ref sig .tc) → Buf (Elt Ideal) ((c : Thread nD τ).loc b)) (c : Dev nD)

/-! ## The router's region -/

/-- Where each window's block lies at a point. -/
theorem rindex_0 : ∀ t : Fin cfg0.N, win0_0.index t = ![t.val, 0] := (by decide +kernel : ∀ t : Fin grid0.N, _)
theorem rindex_1 : ∀ t : Fin cfg0.N, win0_1.index t = ![0, 0] := (by decide +kernel : ∀ t : Fin grid0.N, _)
theorem rindex_2 : ∀ t : Fin cfg0.N, win0_2.index t = ![t.val, 0] := (by decide +kernel : ∀ t : Fin grid0.N, _)
theorem rindex_3 : ∀ t : Fin cfg0.N, win0_3.index t = ![t.val, 0] := (by decide +kernel : ∀ t : Fin grid0.N, _)

/-- Row `r` of a point's block is the array's row `256 t + r`. -/
def rowAt (t : Fin cfg0.N) (r : Fin 256) : Fin 2048 :=
  ⟨t.val * 256 + r.val, by have h : cfg0.N = 8 := N_0; have := t.isLt; have := r.isLt; omega⟩

theorem rblk_0 (t : Fin cfg0.N) (r : Fin 256) (q : Fin 768) :
    rblk V c 0 t (ix2 r q) = (V c main_call0_v0 : Vec Ideal S2048x768 .f32) (ix2 (rowAt t r) q) := by
  unfold rblk rowAt
  blk_ext [rindex_0]

theorem rblk_1 (t : Fin cfg0.N) (k : Fin 8) (q : Fin 768) :
    rblk V c 1 t (ix2 k q) = (V c main_arg1 : Vec Ideal S8x768 .f32) (ix2 k q) := by
  unfold rblk
  blk_ext [rindex_1]

/-- A row of a point's block has its token's logits. -/
theorem lrow_eq (t : Fin cfg0.N) (r : Fin 256) :
    lrow (rblk V c 0 t) (rblk V c 1 t) r = logit (V c main_call0_v0) (V c main_arg1) (rowAt t r) := by
  funext k
  refine (rLogits_apply _ _ r k).trans ?_
  exact Finset.sum_congr rfl fun q _ => by rw [rblk_0, rblk_1]

/-- An index of the point's block of logits, and of weights, in its array. -/
theorem remb_2 (t : Fin cfg0.N) (r : Fin 256) (k : Fin 8) : (win0_2.blk t).view.emb (ix2 r k) = ix2 (rowAt t r) k := by
  unfold rowAt
  blk_ext [rindex_2]
theorem remb_3 (t : Fin cfg0.N) (r : Fin 256) (k : Fin 8) : (win0_3.blk t).view.emb (ix2 r k) = ix2 (rowAt t r) k := by
  unfold rowAt
  blk_ext [rindex_3]

/-- The logits array after the router's region. -/
theorem rarr_2 : (rdat V c).arrAt 2 cfg0.N = logitsOf (V c main_call0_v0) (V c main_arg1) := by
  refine (rdat V c).arrAt_eq_of_covers 2 _ (by decide +kernel) fun t hf y => ?_
  blk_simp
  rw [rafter_2]
  obtain ⟨r, k, rfl⟩ : ∃ (r : Fin 256) (k : Fin 8), y = ix2 r k := ⟨y 0, y 1, eq_ix2 y⟩
  rw [remb_2]
  exact congrFun (lrow_eq V c t r) k

/-- The weights array after it. -/
theorem rarr_3 (hb : ∀ R k, logit (V c main_call0_v0) (V c main_arg1) R k ≠ ⊥) :
    (rdat V c).arrAt 3 cfg0.N = weightsOf (V c main_call0_v0) (V c main_arg1) := by
  refine (rdat V c).arrAt_eq_of_covers 3 _ (by decide +kernel) fun t hf y => ?_
  blk_simp
  rw [rafter_3]
  obtain ⟨r, k, rfl⟩ : ∃ (r : Fin 256) (k : Fin 8), y = ix2 r k := ⟨y 0, y 1, eq_ix2 y⟩
  rw [remb_3, rWeights_apply (ranked _) (by rw [lrow_eq]; exact hb _ _), lrow_eq]
  rfl

/-! ## The experts' region -/

theorem eindex_0 : ∀ t : Fin cfg1.N, win1_0.index t = ![t.val / 8, 0] := (by decide +kernel : ∀ t : Fin grid1.N, _)
theorem eindex_1 : ∀ t : Fin cfg1.N, win1_1.index t = ![t.val / 8, 0] := (by decide +kernel : ∀ t : Fin grid1.N, _)
theorem eindex_2 : ∀ t : Fin cfg1.N, win1_2.index t = ![t.val % 8, 0, 0] := (by decide +kernel : ∀ t : Fin grid1.N, _)
theorem eindex_3 : ∀ t : Fin cfg1.N, win1_3.index t = ![t.val % 8, 0, 0] := (by decide +kernel : ∀ t : Fin grid1.N, _)
theorem eindex_4 : ∀ t : Fin cfg1.N, win1_4.index t = ![t.val % 8, 0, 0] := (by decide +kernel : ∀ t : Fin grid1.N, _)
theorem eindex_5 : ∀ t : Fin cfg1.N, win1_5.index t = ![t.val / 8, 0] := (by decide +kernel : ∀ t : Fin grid1.N, _)

/-- The point's expert, and row `r` of the point's block in its array. -/
def expertAt (n : ℕ) : Fin 8 := ⟨n % 8, Nat.mod_lt _ (by decide)⟩
def tokenAt (n : ℕ) (hn : n < cfg1.N) (r : Fin 256) : Fin 2048 :=
  ⟨n / 8 * 256 + r.val, by have h : cfg1.N = 64 := N_1; have := r.isLt; omega⟩

theorem expert_coord : ∀ t : Fin cfg1.N, (grid1.coords t 1).val = (expertAt t.val).val :=
  (by decide +kernel : ∀ t : Fin grid1.N, _)

theorem eblk_0 (t : Fin cfg1.N) (r : Fin 256) (q : Fin 768) :
    eblk V c 0 t (ix2 r q) = (V c main_call0_v0 : Vec Ideal S2048x768 .f32) (ix2 (tokenAt t.val t.isLt r) q) := by
  unfold eblk tokenAt
  blk_ext [eindex_0]
theorem eblk_1 (t : Fin cfg1.N) (r : Fin 256) (k : Fin 8) :
    eblk V c 1 t (ix2 r k) = (V c main_call0_v1_1 : Vec Ideal S2048x8 .f32) (ix2 (tokenAt t.val t.isLt r) k) := by
  unfold eblk tokenAt
  blk_ext [eindex_1]
theorem eblk_2 (t : Fin cfg1.N) (f : Fin 1536) (q : Fin 768) :
    eblk V c 2 t (ix3 0 f q) = (V c main_arg2 : Vec Ideal S8x1536x768 .f32) (ix3 (expertAt t.val) f q) := by
  unfold eblk expertAt
  blk_ext [eindex_2]
theorem eblk_3 (t : Fin cfg1.N) (f : Fin 1536) (q : Fin 768) :
    eblk V c 3 t (ix3 0 f q) = (V c main_arg3 : Vec Ideal S8x1536x768 .f32) (ix3 (expertAt t.val) f q) := by
  unfold eblk expertAt
  blk_ext [eindex_3]
theorem eblk_4 (t : Fin cfg1.N) (l : Fin 768) (f : Fin 1536) :
    eblk V c 4 t (ix3 0 l f) = (V c main_arg4 : Vec Ideal S8x768x1536 .f32) (ix3 (expertAt t.val) l f) := by
  unfold eblk expertAt
  blk_ext [eindex_4]

/-- The term the body computes at a point: that of the point's expert, for the point's tokens. -/
theorem eterm_apply (t : Fin cfg1.N) (r : Fin 256) (l : Fin 768) :
    k1_pay1 (grid1.coords t) (eblk V c 0 t) (eblk V c 2 t) (eblk V c 3 t) (eblk V c 4 t) (eblk V c 1 t) (ix2 r l)
      = termOf (V c main_call0_v0) (V c main_call0_v1_1) (V c main_arg2) (V c main_arg3) (V c main_arg4) (tokenAt t.val t.isLt r) l (expertAt t.val) := by
  refine (term_apply _ (expertAt t.val) _ _ _ _ _ (expert_coord t) r l).trans ?_
  simp only [eblk_0, eblk_1, eblk_2, eblk_3, eblk_4]
  rfl

/-- After a point the running sum is over the experts up to the point's. -/
theorem eacc_apply (n : ℕ) (hn : n < cfg1.N) (r : Fin 256) (l : Fin 768) :
    eacc V c n hn (ix2 r l) = ∑ e ∈ Finset.range (n % 8 + 1),
      termOf (V c main_call0_v0) (V c main_call0_v1_1) (V c main_arg2) (V c main_arg3) (V c main_arg4) (tokenAt n hn r) l (expertAt e) := by
  induction n with
  | zero =>
    rw [eacc_first V c ⟨0, hn⟩ rfl, eterm_apply]
    simp
  | succ n ih =>
    have last : expertAt ((n + 1) % 8) = expertAt (n + 1) := Fin.ext (Nat.mod_mod _ _)
    by_cases h : (n + 1) % 8 = 0
    · rw [eacc_first V c ⟨n + 1, hn⟩ h, eterm_apply, Finset.sum_range_succ, last, h]
      simp
    · have e1 : (n + 1) % 8 = n % 8 + 1 := by omega
      have e2 : tokenAt (n + 1) hn r = tokenAt n (Nat.lt_of_succ_lt hn) r := Fin.ext (by unfold tokenAt; simp only; omega)
      rw [eacc_next V c ⟨n + 1, hn⟩ h, next_apply, eterm_apply, Finset.sum_range_succ, last, e1, e2]
      exact congrArg (· + _) (ih (Nat.lt_of_succ_lt hn))

/-- After a block's last point it is over all eight. -/
theorem eacc_last (n : ℕ) (hn : n < cfg1.N) (h : n % 8 = 7) (r : Fin 256) (l : Fin 768) :
    eacc V c n hn (ix2 r l) = ∑ e : Fin 8,
      termOf (V c main_call0_v0) (V c main_call0_v1_1) (V c main_arg2) (V c main_arg3) (V c main_arg4) (tokenAt n hn r) l e := by
  rw [eacc_apply, h, Finset.sum_range]
  refine Finset.sum_congr rfl fun e _ => ?_
  have : expertAt e.val = e := Fin.ext (Nat.mod_eq_of_lt e.isLt)
  rw [this]

theorem eemb_5 (t : Fin cfg1.N) (r : Fin 256) (l : Fin 768) :
    (win1_5.blk t).view.emb (ix2 r l) = ix2 (tokenAt t.val t.isLt r) l := by
  unfold tokenAt
  blk_ext [eindex_5]

/-- The result array after the experts' region. -/
theorem earr_5 : (edat V c).arrAt 5 cfg1.N
    = resultOf (V c main_call0_v0) (V c main_call0_v1_1) (V c main_arg2) (V c main_arg3) (V c main_arg4) := by
  refine (edat V c).arrAt_eq_of_covers 5 _ (by decide +kernel) fun t hf y => ?_
  blk_simp
  rw [eafter_5]
  obtain ⟨r, l, rfl⟩ : ∃ (r : Fin 256) (l : Fin 768), y = ix2 r l := ⟨y 0, y 1, eq_ix2 y⟩
  rw [eemb_5]
  exact eacc_last V c t.val t.isLt ((flush1_5 t).mp hf) r l

end Cert.KernelIdeal.Run

end
-- ==== Proof.IdealValue.lean ====
/-
  The kernel's two results at the end of a run, over the extended reals, as functions of the arguments.
-/
module

public import proofs.«01_k».proof.Proof.IdealArrays
public import proofs.«01_k».proof.Proof.IdealRun

@[expose] public section

set_option maxRecDepth 16384

noncomputable section

namespace Cert.KernelIdeal.Run

open Cert.KernelIdeal Cert.KernelIdeal.Gen Cert.Row
open Idealize.ShloMosaic Idealize.ShloMosaic.TcCoe

variable (m : (ℓ : Loc nD τ sig) → Buf (Elt Ideal) ℓ) (ρ : Dev nD → PrngReg) (c : Dev nD)

/-- The tokens as the regions find them: the first argument without its leading axis. -/
def tokens : Vec Ideal S2048x768 .f32 :=
  shapeCast S2048x768 (m ((c : Thread nD τ).loc main_arg0) : Vec Ideal S1x2048x768 .f32) shapeCasts_S1x2048x768_S2048x768

theorem atRouter_v0 : atRouter m ρ c (Proc.devRef .tc main_call0_v0) = tokens m c := rfl

theorem atRouter_arg (a : Ref sig .tc) (ha : a ∈ argRefs) : atRouter m ρ c (Proc.devRef .tc a) = m ((c : Thread nD τ).loc a) :=
  atRouter_of m ρ c a (pre_args a ha)

/-- The logits result at the end. -/
theorem atEnd_logits : atEnd m ρ c (Proc.devRef .tc main_v0_1) = logitsOf (tokens m c) (m ((c : Thread nD τ).loc main_arg1)) := by
  refine (atEnd_of m ρ c main_v0_1 (by decide)).trans ?_
  refine (atReturn_of m ρ c main_v0_1 (by decide)).trans ?_
  refine (atExperts_arr m ρ c 2).trans ?_
  refine (rarr_2 (VR m ρ) c).trans ?_
  exact congrArg₂ logitsOf (atRouter_v0 m ρ c) (atRouter_arg m ρ c main_arg1 (by decide))

/-- The weights the experts' region finds. -/
theorem atExperts_weights (hb : ∀ R k, logit (tokens m c) (m ((c : Thread nD τ).loc main_arg1)) R k ≠ ⊥) :
    atExperts m ρ c (Proc.devRef .tc main_call0_v1_1) = weightsOf (tokens m c) (m ((c : Thread nD τ).loc main_arg1)) := by
  have e0 := atRouter_v0 m ρ c
  have e1 := atRouter_arg m ρ c main_arg1 (by decide)
  refine (atExperts_arr m ρ c 3).trans ?_
  refine (rarr_3 (VR m ρ) c fun R k => ?_).trans (congrArg₂ weightsOf e0 e1)
  show logit (atRouter m ρ c (Proc.devRef .tc main_call0_v0)) (atRouter m ρ c (Proc.devRef .tc main_arg1)) R k ≠ ⊥
  rw [e0, e1]
  exact hb R k

/-- The output at the end: the experts' weighted outputs summed, with a leading axis. -/
theorem atEnd_output (hb : ∀ R k, logit (tokens m c) (m ((c : Thread nD τ).loc main_arg1)) R k ≠ ⊥) :
    atEnd m ρ c (Proc.devRef .tc main_v0_0) = (shapeCast S1x2048x768
      (resultOf (tokens m c) (weightsOf (tokens m c) (m ((c : Thread nD τ).loc main_arg1))) (m ((c : Thread nD τ).loc main_arg2))
        (m ((c : Thread nD τ).loc main_arg3)) (m ((c : Thread nD τ).loc main_arg4))) shapeCasts_S2048x768_S1x2048x768 : Vec Ideal S1x2048x768 .f32) := by
  have e0 : atExperts m ρ c (Proc.devRef .tc main_call0_v0) = tokens m c :=
    (atExperts_of m ρ c main_call0_v0 (by decide)).trans (atRouter_v0 m ρ c)
  have e1 := atExperts_weights m ρ c hb
  have e2 := atExperts_arg m ρ c main_arg2 (by decide)
  have e3 := atExperts_arg m ρ c main_arg3 (by decide)
  have e4 := atExperts_arg m ρ c main_arg4 (by decide)
  have e : atReturn m ρ c (Proc.devRef .tc main_call0_v2) = resultOf (tokens m c) (weightsOf (tokens m c) (m ((c : Thread nD τ).loc main_arg1)))
      (m ((c : Thread nD τ).loc main_arg2)) (m ((c : Thread nD τ).loc main_arg3)) (m ((c : Thread nD τ).loc main_arg4)) := by
    refine (atReturn_arr m ρ c 5).trans ((earr_5 (VE m ρ) c).trans ?_)
    show resultOf (atExperts m ρ c (Proc.devRef .tc main_call0_v0)) (atExperts m ρ c (Proc.devRef .tc main_call0_v1_1))
      (atExperts m ρ c (Proc.devRef .tc main_arg2)) (atExperts m ρ c (Proc.devRef .tc main_arg3))
      (atExperts m ρ c (Proc.devRef .tc main_arg4)) = _
    rw [e0, e1, e2, e3, e4]
  rw [← e]
  rfl

end Cert.KernelIdeal.Run

end
-- ==== Proof.ReferenceRouter.lean ====
/-
  The reference's router read at a row: the logits as sums of products, the two selected experts off its stable
  descending sort, and the two multipliers off its masked softmax, for a row of finite logits.
-/
module

public import proofs.«01_k».proof.Proof.Gen.ReferenceIdeal.Read
public import proofs.«01_k».proof.Proof.Row

@[expose] public section

set_option maxRecDepth 16384

noncomputable section

namespace Cert.ReferenceIdeal.Rows

open Cert.ReferenceIdeal Cert.ReferenceIdeal.Gen Cert.ReferenceIdeal.Read Cert.Row
open Idealize.ShloMosaic Idealize.ShloMosaic.TcCoe

variable (x0 : Vec Ideal S1x2048x768 .f32) (x1 : Vec Ideal S8x768 .f32)

/-- Row `r` of the reference's logits. -/
def logits (r : Fin 2048) (k : Fin 8) : EReal := val_main_v2 (F := Ideal) x0 x1 (ix2 r k)

/-- A logit is the inner product of the token's row and the expert's gate row. -/
theorem logits_eq (r : Fin 2048) (k : Fin 8) :
    logits x0 x1 r k = ∑ q : Fin 768, x0 (ix3 0 r q) * x1 (ix2 k q) := by
  unfold logits
  pointwise [val_main_v2, val_main_v1, val_main_v0]

variable {x0 x1}

/-- A descending sort's first two positions along a row are the ranked ones. -/
theorem topK_apply (y : Vec Ideal S2048x8 .f32) (r : Fin 2048) (i j : Fin 8) (h : Ranked (fun k => y (ix2 r k)) i j) (a : Fin 2) :
    (Host.topK S2048x2 1 (FloatOps.cmpfTotal (F := Ideal) (φ := .f32) .gt) y sliceFits_S2048x8_S2048x2).1 (ix2 r a) = y (ix2 r (![i, j] a))
    ∧ (Host.topK S2048x2 1 (FloatOps.cmpfTotal (F := Ideal) (φ := .f32) .gt) y sliceFits_S2048x8_S2048x2).2 (ix2 r a)
        = BitVec.ofNat 32 (![i, j] a).val := by
  have hd : 1 < S2048x8.rank := by decide
  have hal : ∀ k b : Fin 8, Shape.Idx.along (s := S2048x8) (ix2 r b) ⟨1, hd⟩ k = ix2 r k := fun k b => by
    funext q; match q with
    | ⟨0, _⟩ => rfl
    | ⟨1, _⟩ => rfl
  have hs := sortedFrom_ranked h (fun k k' => FloatOps.cmpfTotal (F := Ideal) (φ := .f32) .gt
      (y (Shape.Idx.along (s := S2048x8) (ix2 r (a.castLE (by decide))) ⟨1, hd⟩ k))
      (y (Shape.Idx.along (s := S2048x8) (ix2 r (a.castLE (by decide))) ⟨1, hd⟩ k')) == 1#1)
    (fun k k' => by
      rw [hal, hal]
      show (BitVec.ofBool (decide (y (ix2 r k') < y (ix2 r k))) == 1#1) = _
      cases decide (y (ix2 r k') < y (ix2 r k)) <;> rfl) a
  have hsl : ∀ {α : Type} (v : S2048x8.Idx → α), extractStridedSlice S2048x2 (fun _ => 0) v sliceFits_S2048x8_S2048x2 (ix2 r a)
      = v (ix2 r (a.castLE (by decide))) := fun v => by
    refine extractStridedSlice_apply _ v _ (ix2 r a) (ix2 r (a.castLE (by decide))) fun q => ?_
    match q with
    | ⟨0, _⟩ => exact (Nat.zero_add _).symm
    | ⟨1, _⟩ => exact (Nat.zero_add _).symm
  unfold Host.topK Host.sort2
  simp only [dif_pos hd, hsl]
  constructor
  · exact (congrArg y (hal _ _)).trans (congrArg (fun k => y (ix2 r k)) hs)
  · exact (congrArg (iotaInDim S2048x8 32 ⟨1, hd⟩) (hal _ _)).trans
      (congrArg (fun k : Fin 8 => BitVec.ofNat 32 k.val) hs)

/-- The stage's values and indices along a row are the ranked logits and their positions. -/
theorem values_apply {r : Fin 2048} {i j : Fin 8} (h : Ranked (logits x0 x1 r) i j) (a : Fin 2) :
    val_main_values (F := Ideal) x0 x1 (ix2 r a) = logits x0 x1 r (![i, j] a) :=
  (topK_apply (val_main_v2 (F := Ideal) x0 x1) r i j h a).1

theorem indices_apply {r : Fin 2048} {i j : Fin 8} (h : Ranked (logits x0 x1 r) i j) (a : Fin 2) :
    val_main_indices (F := Ideal) x0 x1 (ix2 r a) = BitVec.ofNat 32 (![i, j] a).val :=
  (topK_apply (val_main_v2 (F := Ideal) x0 x1) r i j h a).2

/-- Taking along a row at a position word in range: the gather reads that position. -/
theorem gather_apply (y : Vec Ideal S2048x8 .f32) (idx : IVec S2048x1x1 32) (r : Fin 2048) (q : Fin 1) (i : Fin 8)
    (h : idx (ix3 r 0 0) = BitVec.ofNat 32 i.val) :
    Host.gather gather_S2048x8_S2048x1x1_S2048x1_n_1_0_0_1_2_11 y idx (ix2 r q) = y (ix2 r i) := by
  obtain rfl : q = 0 := Subsingleton.elim _ _
  have hs : gather_S2048x8_S2048x1x1_S2048x1_n_1_0_0_1_2_11.siIdx (ix2 r 0) ⟨0, by decide⟩ = ix3 r 0 0 := by
    funext b; match b with
    | ⟨0, _⟩ => rfl
    | ⟨1, _⟩ => rfl
    | ⟨2, _⟩ => rfl
  unfold Host.gather
  refine congrArg y (funext fun b => Fin.ext ?_)
  match b with
  | ⟨0, _⟩ =>
    show GatherDims.start _ _ _ (0 : Fin S2048x8.rank) + GatherDims.batchCoord _ _ (0 : Fin S2048x8.rank)
      + GatherDims.offCoord _ _ (0 : Fin S2048x8.rank) = r.val
    rw [GatherDims.start_batching _ _ _ _ (by decide), GatherDims.offCoord_eq_zero _ _ _ (by decide), Nat.zero_add, Nat.add_zero]
    rfl
  | ⟨1, _⟩ =>
    show GatherDims.start _ _ _ (1 : Fin S2048x8.rank) + GatherDims.batchCoord _ _ (1 : Fin S2048x8.rank)
      + GatherDims.offCoord _ _ (1 : Fin S2048x8.rank) = i.val
    rw [GatherDims.batchCoord_eq_zero _ _ _ (by decide), GatherDims.offCoord_eq_zero _ _ _ (by decide), Nat.add_zero]
    show min (idx (gather_S2048x8_S2048x1x1_S2048x1_n_1_0_0_1_2_11.siIdx (ix2 r 0) ⟨0, _⟩)).toInt.toNat 7 = i.val
    rw [hs, h]
    exact (by decide : ∀ i : Fin 8, min (BitVec.ofNat 32 i.val).toInt.toNat 7 = i.val) i

/-- A position word is not negative, so wrapping negative indices leaves it. -/
theorem wrap_word (i : Fin 8) :
    Scalar.select (IntOp.cmpi .slt (BitVec.ofNat 32 i.val) 0#32) (IntOp.addi (BitVec.ofNat 32 i.val) 8#32) (BitVec.ofNat 32 i.val)
      = BitVec.ofNat 32 i.val := by
  revert i; decide

/-- A position word lies between 0 and 7. -/
theorem word_in_range (i : Fin 8) :
    Finset.univ.fold IntOp.andi (1#1) (fun _ : Fin 1 =>
      IntOp.andi (IntOp.cmpi .sge (BitVec.ofNat 32 i.val) 0#32) (IntOp.cmpi .sle (BitVec.ofNat 32 i.val) 7#32)) = 1#1 := by
  revert i; decide

/-- The first expert's masked logits. -/
theorem v12_apply {r : Fin 2048} {i j : Fin 8} (h : Ranked (logits x0 x1 r) i j) (k : Fin 8) :
    val_main_v12 (F := Ideal) x0 x1 (ix2 r k) = masked (logits x0 x1 r i) (logits x0 x1 r) (logits x0 x1 r) k := by
  pointwise [val_main_v12, val_main_v11, val_main_v10, val_main_v9, val_main_v8, val_main_v7, val_main_v6, val_main_v5,
    val_main_v4, val_main_v3, val_main_cst, val_main_call0_v1, val_main_call0_v0, val_main_cst_0, id]
  rw [values_apply h 0, negInf]
  rfl

/-- The first expert's softmax at a position. -/
theorem v23_apply {r : Fin 2048} {i j : Fin 8} (h : Ranked (logits x0 x1 r) i j)
    (hb : ∀ k, logits x0 x1 r k ≠ ⊥) (ht : ∀ k, logits x0 x1 r k ≠ ⊤) (k : Fin 8) :
    val_main_v23 (F := Ideal) x0 x1 (ix2 r k) = share (logits x0 x1 r i) (logits x0 x1 r) (logits x0 x1 r) k := by
  pointwise [val_main_v23, val_main_v22, val_main_v21, val_main_v20, val_main_v19, val_main_v18, val_main_v17, val_main_v16,
    val_main_v15, val_main_v14, val_main_v13, val_main_cst_1, val_main_cst_2, val_main_cst_3]
  simp only [v12_apply h, negInf]
  rw [fold_max_masked _ _ i (hb i) (ht i) rfl h.fst_max, max_eq_right bot_le]
  rfl

/-- The second expert's masked logits: the first position is dropped, the rest masked against the second logit. -/
theorem v39_apply {r : Fin 2048} {i j : Fin 8} (h : Ranked (logits x0 x1 r) i j) (k : Fin 8) :
    val_main_v39 (F := Ideal) x0 x1 (ix2 r k)
      = masked (logits x0 x1 r j) (logits x0 x1 r) (without (logits x0 x1 r) i) k := by
  pointwise [val_main_v39, val_main_v38, val_main_v37, val_main_v36, val_main_v35, val_main_v34, val_main_v33, val_main_v32,
    val_main_v31, val_main_v30, val_main_cst_5, val_main_cst_6, val_main_call4_v1, val_main_call4_v0, val_main_v29,
    val_main_v28, val_main_call3_v1, val_main_call3_v0, val_main_cst_4, val_main_call2_v2, val_main_call2_v3,
    val_main_call2_v1, val_main_call2_v0, val_main_v27, val_main_v26, id]
  rw [values_apply h 1, indices_apply h 0, negInf]
  show (if _ then (⊥ : EReal) else Scalar.select (IntOp.cmpi .eq (BitVec.ofNat 32 i.val) (BitVec.ofNat 32 k.val)) ⊥ _) = _
  rw [select_word, ite_cond_congr (propext (eq_comm (a := i) (b := k)))]
  rfl

/-- The second expert's softmax at a position. -/
theorem v50_apply {r : Fin 2048} {i j : Fin 8} (h : Ranked (logits x0 x1 r) i j)
    (hb : ∀ k, logits x0 x1 r k ≠ ⊥) (ht : ∀ k, logits x0 x1 r k ≠ ⊤) (k : Fin 8) :
    val_main_v50 (F := Ideal) x0 x1 (ix2 r k)
      = share (logits x0 x1 r j) (logits x0 x1 r) (without (logits x0 x1 r) i) k := by
  pointwise [val_main_v50, val_main_v49, val_main_v48, val_main_v47, val_main_v46, val_main_v45, val_main_v44, val_main_v43,
    val_main_v42, val_main_v41, val_main_v40, val_main_cst_7, val_main_cst_8, val_main_cst_9]
  simp only [v39_apply h, negInf]
  rw [fold_max_masked _ _ j (hb j) (ht j) (without_snd h) (without_max h), max_eq_right bot_le]
  rfl

/-- The start indices of a take along the rows: the position words, negative ones wrapped. -/
def wrapped (w : IVec S2048x1 32) : IVec S2048x1x1 32 :=
  shapeCast _ (select (cmpi .slt w (broadcastInDim S2048x1 ![] bcast_S_S2048x1 (constantI S_ 32 0#32)))
    (addi w (broadcastInDim S2048x1 ![] bcast_S_S2048x1 (constantI S_ 32 8#32))) w) shapeCasts_S2048x1_S2048x1x1

/-- The take along the rows: the gather where the start index is in range. -/
def taken (y : FVec Ideal S2048x8 .f32) (w : IVec S2048x1 32) : FVec Ideal S2048x1 .f32 :=
  select (Host.reduce IntOp.andi
      (andi (cmpi .sge (wrapped w) (broadcastInDim S2048x1x1 ![] bcast_S_S2048x1x1 (constantI S_ 32 0#32)))
        (cmpi .sle (wrapped w) (broadcastInDim S2048x1x1 ![0, 1, 2] bcast_S1x1x1_S2048x1x1_0_1_2
          (broadcastInDim S1x1x1 ![2] bcast_S1_S1x1x1_2 (constantI S1 32 7#32)))))
      (constantI S_ 1 1#1) reducesTo_S2048x1x1_S2048x1_d2 h_S_)
    (Host.gather gather_S2048x8_S2048x1x1_S2048x1_n_1_0_0_1_2_11 y (wrapped w))
    (broadcastInDim S2048x1 ![] bcast_S_S2048x1 (constant (F := Ideal) S_ .f32 0x7FC00000#32))

/-- A take along the rows at a position word is the row's entry there. -/
theorem taken_apply (y : Vec Ideal S2048x8 .f32) (w : IVec S2048x1 32) (r : Fin 2048) (i : Fin 8)
    (h : w (ix2 r 0) = BitVec.ofNat 32 i.val) : taken y w (ix2 r 0) = y (ix2 r i) := by
  have hw : ∀ q : Fin 1, wrapped w (ix3 r 0 q) = BitVec.ofNat 32 i.val := fun q => by
    pointwise [wrapped]
    rw [h]
    exact wrap_word i
  have hg := gather_apply y (wrapped w) r 0 i (hw 0)
  pointwise [taken]
  rw [hg]
  simp only [hw]
  rw [word_in_range]
  rfl

/-- The two multipliers along a row: each selected expert's softmax at its own position. -/
theorem v53_apply {r : Fin 2048} {i j : Fin 8} (h : Ranked (logits x0 x1 r) i j)
    (hb : ∀ k, logits x0 x1 r k ≠ ⊥) (ht : ∀ k, logits x0 x1 r k ≠ ⊤) :
    val_main_v53 (F := Ideal) x0 x1 (ix2 r 0) = share (logits x0 x1 r i) (logits x0 x1 r) (logits x0 x1 r) i
    ∧ val_main_v53 (F := Ideal) x0 x1 (ix2 r 1)
        = share (logits x0 x1 r j) (logits x0 x1 r) (without (logits x0 x1 r) i) j := by
  have h0 : val_main_v24 (F := Ideal) x0 x1 (ix2 r 0) = BitVec.ofNat 32 i.val := by
    pointwise [val_main_v24]
    exact indices_apply h 0
  have h1 : val_main_v51 (F := Ideal) x0 x1 (ix2 r 0) = BitVec.ofNat 32 j.val := by
    pointwise [val_main_v51]
    exact indices_apply h 1
  have e0 : val_main_v25 (F := Ideal) x0 x1 = taken (val_main_v23 (F := Ideal) x0 x1) (val_main_v24 (F := Ideal) x0 x1) := rfl
  have e1 : val_main_v52 (F := Ideal) x0 x1 = taken (val_main_v50 (F := Ideal) x0 x1) (val_main_v51 (F := Ideal) x0 x1) := rfl
  constructor
  · pointwise [val_main_v53]
    rw [e0, taken_apply _ _ r i h0, v23_apply h hb ht]
  · pointwise [val_main_v53]
    rw [e1, taken_apply _ _ r j h1, v50_apply h hb ht]

variable (x0 x1) in
/-- The column of weights of the expert whose position word is `w`, spread over the features: over the two selected
    positions, the multipliers whose index is `w`. -/
def column (w : BitVec 32) : FVec Ideal S2048x768 .f32 :=
  broadcastInDim S2048x768 ![0, 1] bcast_S2048x1_S2048x768_0_1 (broadcastInDim S2048x1 ![0] bcast_S2048_S2048x1_0
    (Host.reduceAdd (F := Ideal) (φ := .f32) (select (cmpi .eq (val_main_indices (F := Ideal) x0 x1)
        (broadcastInDim S2048x2 ![] bcast_S_S2048x2 (constantI S_ 32 w))) (val_main_v53 (F := Ideal) x0 x1)
        (broadcastInDim S2048x2 ![] bcast_S_S2048x2 (constant (F := Ideal) S_ .f32 0x00000000#32)))
      (constant (F := Ideal) S_ .f32 0x00000000#32) reducesTo_S2048x2_S2048_d1 h_S_))

/-- An expert's column of weights at a token is the token's weight for it. -/
theorem column_apply {r : Fin 2048} {i j : Fin 8} (h : Ranked (logits x0 x1 r) i j)
    (hb : ∀ k, logits x0 x1 r k ≠ ⊥) (ht : ∀ k, logits x0 x1 r k ≠ ⊤) (e : Fin 8) (l : Fin 768) :
    column x0 x1 (BitVec.ofNat 32 e.val) (ix2 r l) = weight (logits x0 x1 r) i j e := by
  pointwise [column]
  rw [Fin.sum_univ_two, indices_apply h 0, indices_apply h 1, (v53_apply h hb ht).1, (v53_apply h hb ht).2]
  show Scalar.select (IntOp.cmpi .eq (BitVec.ofNat 32 i.val) (BitVec.ofNat 32 e.val)) _ _
    + Scalar.select (IntOp.cmpi .eq (BitVec.ofNat 32 j.val) (BitVec.ofNat 32 e.val)) _ _ = _
  rw [select_word, select_word, ite_cond_congr (propext (eq_comm (a := i) (b := e))),
    ite_cond_congr (propext (eq_comm (a := j) (b := e)))]
  rfl

end Cert.ReferenceIdeal.Rows

end
-- ==== Proof.ReferenceExperts.lean ====
/-
  The reference's eight experts: its result is eight weighted expert outputs added up in order from zero, each read at a
  token and a feature.
-/
module

public import proofs.«01_k».proof.Proof.ReferenceRouter

@[expose] public section

set_option maxRecDepth 16384

noncomputable section

namespace Cert.ReferenceIdeal.Rows

open Cert.ReferenceIdeal Cert.ReferenceIdeal.Gen Cert.ReferenceIdeal.Read Cert.Row
open Idealize.ShloMosaic Idealize.ShloMosaic.TcCoe

variable (x0 : Vec Ideal S1x2048x768 .f32) (x1 : Vec Ideal S8x768 .f32)
  (x2 x3 : Vec Ideal S8x1536x768 .f32) (x4 : Vec Ideal S8x768x1536 .f32)

/-- The tokens' projection by the weights at offset `o` of a stack of eight. -/
def projected (o : Fin 3 → Nat) (w : FVec Ideal S8x1536x768 .f32) (h : S8x1536x768.Slices o S1x1536x768) :
    FVec Ideal S2048x1536 .f32 :=
  Host.dotGeneral (F := Ideal) (φ₁ := .f32) (φ₂ := .f32) dot_S2048x768_S768x1536_S2048x1536_1_0_0_1_n_n none (val_main_v0 (F := Ideal) x0)
    (transpose S768x1536 [1, 0] (shapeCast S1536x768 (extractStridedSlice S1x1536x768 o w h) shapeCasts_S1x1536x768_S1536x768)
      transposes_S1536x768_S768x1536_1_0)

/-- The swish of a projection: itself times one over one plus the exponential of its negative. -/
def swish (g : FVec Ideal S2048x1536 .f32) : FVec Ideal S2048x1536 .f32 :=
  mulf g (Host.divf (broadcastInDim S2048x1536 ![] bcast_S_S2048x1536 (constant (F := Ideal) S_ .f32 0x3F800000#32))
    (addf (broadcastInDim S2048x1536 ![] bcast_S_S2048x1536 (constant (F := Ideal) S_ .f32 0x3F800000#32)) (Host.exp (Host.negf g))))

/-- The output of the expert at offset `o` of the three stacks. -/
def output (o : Fin 3 → Nat) (h : S8x1536x768.Slices o S1x1536x768) (h' : S8x768x1536.Slices o S1x768x1536) :
    FVec Ideal S2048x768 .f32 :=
  Host.dotGeneral (F := Ideal) (φ₁ := .f32) (φ₂ := .f32) dot_S2048x1536_S1536x768_S2048x768_1_0_0_1_n_n none (mulf (swish (projected x0 o x2 h)) (projected x0 o x3 h))
    (transpose S1536x768 [1, 0] (shapeCast S768x1536 (extractStridedSlice S1x768x1536 o x4 h') shapeCasts_S1x768x1536_S768x1536)
      transposes_S768x1536_S1536x768_1_0)

/-- A projection at a token and a hidden unit. -/
theorem projected_apply (e : Fin 8) (w : FVec Ideal S8x1536x768 .f32) (h : S8x1536x768.Slices ![e.val, 0, 0] S1x1536x768)
    (r : Fin 2048) (f : Fin 1536) :
    projected x0 ![e.val, 0, 0] w h (ix2 r f) = ∑ q : Fin 768, x0 (ix3 0 r q) * w (ix3 e f q) := by
  pointwise [projected, val_main_v0]

/-- The swish at a token and a hidden unit. -/
theorem swish_apply (g : FVec Ideal S2048x1536 .f32) (r : Fin 2048) (f : Fin 1536) :
    swish g (ix2 r f) = g (ix2 r f) * Ideal.logistic (g (ix2 r f)) := by
  pointwise [swish]
  rfl

/-- An expert's output at a token and a feature. -/
theorem output_apply (e : Fin 8) (h : S8x1536x768.Slices ![e.val, 0, 0] S1x1536x768)
    (h' : S8x768x1536.Slices ![e.val, 0, 0] S1x768x1536) (r : Fin 2048) (l : Fin 768) :
    output x0 x2 x3 x4 ![e.val, 0, 0] h h' (ix2 r l) = expert (fun q => x0 (ix3 0 r q)) (fun f q => x2 (ix3 e f q)) (fun f q => x3 (ix3 e f q)) (fun f => x4 (ix3 e l f)) := by
  pointwise [output]
  simp only [swish_apply, projected_apply]
  rfl

/-- Each expert's term of the result is its column of weights times its output. -/
theorem terms_eq :
      val_main_v75 (F := Ideal) x0 x1 x2 x3 x4 = mulf (column x0 x1 0#32) (output x0 x2 x3 x4 ![0, 0, 0] slices_S8x1536x768_S1x1536x768_0_0_0 slices_S8x768x1536_S1x768x1536_0_0_0)
    ∧ val_main_v97 (F := Ideal) x0 x1 x2 x3 x4 = mulf (column x0 x1 1#32) (output x0 x2 x3 x4 ![1, 0, 0] slices_S8x1536x768_S1x1536x768_1_0_0 slices_S8x768x1536_S1x768x1536_1_0_0)
    ∧ val_main_v119 (F := Ideal) x0 x1 x2 x3 x4 = mulf (column x0 x1 2#32) (output x0 x2 x3 x4 ![2, 0, 0] slices_S8x1536x768_S1x1536x768_2_0_0 slices_S8x768x1536_S1x768x1536_2_0_0)
    ∧ val_main_v141 (F := Ideal) x0 x1 x2 x3 x4 = mulf (column x0 x1 3#32) (output x0 x2 x3 x4 ![3, 0, 0] slices_S8x1536x768_S1x1536x768_3_0_0 slices_S8x768x1536_S1x768x1536_3_0_0)
    ∧ val_main_v163 (F := Ideal) x0 x1 x2 x3 x4 = mulf (column x0 x1 4#32) (output x0 x2 x3 x4 ![4, 0, 0] slices_S8x1536x768_S1x1536x768_4_0_0 slices_S8x768x1536_S1x768x1536_4_0_0)
    ∧ val_main_v185 (F := Ideal) x0 x1 x2 x3 x4 = mulf (column x0 x1 5#32) (output x0 x2 x3 x4 ![5, 0, 0] slices_S8x1536x768_S1x1536x768_5_0_0 slices_S8x768x1536_S1x768x1536_5_0_0)
    ∧ val_main_v207 (F := Ideal) x0 x1 x2 x3 x4 = mulf (column x0 x1 6#32) (output x0 x2 x3 x4 ![6, 0, 0] slices_S8x1536x768_S1x1536x768_6_0_0 slices_S8x768x1536_S1x768x1536_6_0_0)
    ∧ val_main_v229 (F := Ideal) x0 x1 x2 x3 x4 = mulf (column x0 x1 7#32) (output x0 x2 x3 x4 ![7, 0, 0] slices_S8x1536x768_S1x1536x768_7_0_0 slices_S8x768x1536_S1x768x1536_7_0_0) :=
  ⟨rfl, rfl, rfl, rfl, rfl, rfl, rfl, rfl⟩

/-- An expert's term at a token and a feature: the token's weight for the expert times the expert's output there. -/
theorem term_apply {r : Fin 2048} {i j : Fin 8} (hr : Ranked (logits x0 x1 r) i j) (hb : ∀ k, logits x0 x1 r k ≠ ⊥)
    (ht : ∀ k, logits x0 x1 r k ≠ ⊤) (e : Fin 8) (h : S8x1536x768.Slices ![e.val, 0, 0] S1x1536x768)
    (h' : S8x768x1536.Slices ![e.val, 0, 0] S1x768x1536) (l : Fin 768) :
    mulf (column x0 x1 (BitVec.ofNat 32 e.val)) (output x0 x2 x3 x4 ![e.val, 0, 0] h h') (ix2 r l)
      = weight (logits x0 x1 r) i j e
        * expert (fun q => x0 (ix3 0 r q)) (fun f q => x2 (ix3 e f q)) (fun f q => x3 (ix3 e f q)) (fun f => x4 (ix3 e l f)) := by
  show column x0 x1 (BitVec.ofNat 32 e.val) (ix2 r l) * output x0 x2 x3 x4 ![e.val, 0, 0] h h' (ix2 r l) = _
  rw [column_apply hr hb ht, output_apply]

/-- The reference's result before its last reshape, at a token and a feature: the experts' outputs, each times the
    token's weight for it, summed. -/
theorem result_apply {r : Fin 2048} {i j : Fin 8} (hr : Ranked (logits x0 x1 r) i j) (hb : ∀ k, logits x0 x1 r k ≠ ⊥)
    (ht : ∀ k, logits x0 x1 r k ≠ ⊤) (l : Fin 768) :
    val_main_v230 (F := Ideal) x0 x1 x2 x3 x4 (ix2 r l)
      = ∑ e : Fin 8, weight (logits x0 x1 r) i j e
        * expert (fun q => x0 (ix3 0 r q)) (fun f q => x2 (ix3 e f q)) (fun f q => x3 (ix3 e f q)) (fun f => x4 (ix3 e l f)) := by
  have T := term_apply x0 x1 x2 x3 x4 hr hb ht
  obtain ⟨t0, t1, t2, t3, t4, t5, t6, t7⟩ := terms_eq x0 x1 x2 x3 x4
  have z : val_main_v54 (F := Ideal) (ix2 r l) = 0 := by pointwise [val_main_v54, val_main_cst_10]
  rw [Fin.sum_univ_eight, ← T 0 slices_S8x1536x768_S1x1536x768_0_0_0 slices_S8x768x1536_S1x768x1536_0_0_0,
    ← T 1 slices_S8x1536x768_S1x1536x768_1_0_0 slices_S8x768x1536_S1x768x1536_1_0_0,
    ← T 2 slices_S8x1536x768_S1x1536x768_2_0_0 slices_S8x768x1536_S1x768x1536_2_0_0,
    ← T 3 slices_S8x1536x768_S1x1536x768_3_0_0 slices_S8x768x1536_S1x768x1536_3_0_0,
    ← T 4 slices_S8x1536x768_S1x1536x768_4_0_0 slices_S8x768x1536_S1x768x1536_4_0_0,
    ← T 5 slices_S8x1536x768_S1x1536x768_5_0_0 slices_S8x768x1536_S1x768x1536_5_0_0,
    ← T 6 slices_S8x1536x768_S1x1536x768_6_0_0 slices_S8x768x1536_S1x768x1536_6_0_0,
    ← T 7 slices_S8x1536x768_S1x1536x768_7_0_0 slices_S8x768x1536_S1x768x1536_7_0_0]
  have e0 := congrFun t0 (ix2 r l)
  have e1 := congrFun t1 (ix2 r l)
  have e2 := congrFun t2 (ix2 r l)
  have e3 := congrFun t3 (ix2 r l)
  have e4 := congrFun t4 (ix2 r l)
  have e5 := congrFun t5 (ix2 r l)
  have e6 := congrFun t6 (ix2 r l)
  have e7 := congrFun t7 (ix2 r l)
  refine Eq.trans ?_ (congrArg₂ (· + ·) (congrArg₂ (· + ·) (congrArg₂ (· + ·) (congrArg₂ (· + ·) (congrArg₂ (· + ·)
    (congrArg₂ (· + ·) (congrArg₂ (· + ·) e0 e1) e2) e3) e4) e5) e6) e7)
  rw [val_main_v230_apply, val_main_v208_apply, val_main_v186_apply, val_main_v164_apply, val_main_v142_apply, val_main_v120_apply,
    val_main_v98_apply, val_main_v76_apply, z]
  exact congrArg (fun y : EReal => y + _ + _ + _ + _ + _ + _ + _) (zero_add _)

end Cert.ReferenceIdeal.Rows

end
-- ==== Proof.Finite.lean ====
/-
  What the precondition gives: every entry of the rows and of the gate's weights is a real number, so every logit is one.
-/
module

public import proofs.«01_k».proof.Proof.Gen.Pre_finite_rows_and_gate
public import Idealize.ShloMosaic.Lib.Pointwise

@[expose] public section

set_option maxRecDepth 16384

noncomputable section

namespace Cert.Pre_finite_rows_and_gate

open Cert.Pre_finite_rows_and_gate.Gen
open Idealize.ShloMosaic

/-- A conjunction of truth words over an index set is true only if each of them is. -/
theorem fold_and {ι : Type} [Fintype ι] (p : ι → BitVec 1) (h : Finset.univ.fold IntOp.andi (1#1) p = 1#1) (k : ι) : p k = 1#1 := by
  have key : ∀ {x y z : BitVec 1}, IntOp.andi y z = 1#1 ↔ y = 1#1 ∧ z = 1#1 := by
    intro x y z; revert y z; decide
  exact ((Finset.fold_op_rel_iff_and (op := IntOp.andi) (r := fun _ y : BitVec 1 => y = 1#1) (c := 0#1)
    (fun {x y z} => key (x := x))).mp h).2 k (Finset.mem_univ k)

/-- An extended real whose absolute value is below plus infinity is a real number. -/
theorem real_of_lt (x : EReal) (h : BitVec.ofBool (decide (FloatOps.absf (F := Ideal) (φ := .f32) x < Ideal.ofBits .f32 0x7F800000#32)) = 1#1) :
    x ≠ ⊥ ∧ x ≠ ⊤ := by
  have top : Ideal.ofBits .f32 0x7F800000#32 = ⊤ := by simp [Ideal.ofBits, Ideal.ieee]
  rw [top] at h
  have lt : max x (-x) < ⊤ := by
    by_contra hn
    have : decide (FloatOps.absf (F := Ideal) (φ := .f32) x < (⊤ : EReal)) = false := decide_eq_false hn
    rw [this] at h
    exact absurd h (by decide)
  constructor
  · rintro rfl; simp at lt
  · rintro rfl; simp at lt

/-- Under the precondition the rows and the gate's weights are real numbers. -/
theorem real_args {x0 : FVec Ideal S1x2048x768 .f32} {x1 : FVec Ideal S8x768 .f32} {x2 x3 : FVec Ideal S8x1536x768 .f32}
    {x4 : FVec Ideal S8x768x1536 .f32} (h : fn x0 x1 x2 x3 x4 = fun _ => 1#1) :
    (∀ (r : Fin 2048) (q : Fin 768), x0 (ix3 0 r q) ≠ ⊥ ∧ x0 (ix3 0 r q) ≠ ⊤)
      ∧ ∀ (k : Fin 8) (q : Fin 768), x1 (ix2 k q) ≠ ⊥ ∧ x1 (ix2 k q) ≠ ⊤ := by
  have e := congrFun h (fun a : Fin 0 => a.elim0)
  have both : ∀ a b : BitVec 1, IntOp.andi a b = 1#1 → a = 1#1 ∧ b = 1#1 := by decide
  pointwise [fn] at e
  obtain ⟨e0, e1⟩ := both _ _ e
  exact ⟨fun r q => real_of_lt _ (fold_and _ e0 (0, r, q)), fun k q => real_of_lt _ (fold_and _ e1 (k, q))⟩

/-- A sum of products of real numbers is a real number. -/
theorem real_sum {n : ℕ} (f g : Fin n → EReal) (hf : ∀ q, f q ≠ ⊥ ∧ f q ≠ ⊤) (hg : ∀ q, g q ≠ ⊥ ∧ g q ≠ ⊤) :
    ∑ q, f q * g q ≠ ⊥ ∧ ∑ q, f q * g q ≠ ⊤ := by
  refine Finset.sum_induction _ (fun x : EReal => x ≠ ⊥ ∧ x ≠ ⊤) (fun a b ha hb => ?_) (by simp) fun q _ => ?_
  · exact ⟨fun e => (EReal.add_eq_bot_iff.mp e).elim ha.1 hb.1, EReal.add_ne_top ha.2 hb.2⟩
  · lift f q to ℝ using ⟨(hf q).2, (hf q).1⟩ with a
    lift g q to ℝ using ⟨(hg q).2, (hg q).1⟩ with b
    rw [← EReal.coe_mul]
    exact ⟨EReal.coe_ne_bot _, EReal.coe_ne_top _⟩

end Cert.Pre_finite_rows_and_gate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_rows_and_gate
public import proofs.«01_k».proof.Proof.BitsRun
public import proofs.«01_k».proof.Proof.IdealRun
public import proofs.«01_k».proof.Proof.IdealValue
public import proofs.«01_k».proof.Proof.ReferenceExperts
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs to an end, its arguments unchanged and its counters at zero. -/
theorem frame_kernel : Cert.quiescent_Kernel := fun m ρ _ => Cert.Kernel.Run.frame m ρ

/-- The idealized kernel runs to an end, its arguments unchanged and its counters at zero. -/
theorem frame_ideal : Cert.quiescent_KernelIdeal := fun m ρ _ => Cert.KernelIdeal.Run.frame m ρ

/-- The reference runs to an end with its arguments unchanged; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same two, on the memories the precondition admits. -/
theorem frame_ideal_pre : Cert.quiescent_KernelIdeal_pre_finite_rows_and_gate := fun m ρ _ => Cert.KernelIdeal.Run.frame m ρ
theorem frame_reference_pre : Cert.quiescent_ReferenceIdeal_pre_finite_rows_and_gate := fun m ρ _ =>
  (θ_run Cert.ReferenceIdeal.defs _ _).mono (fun r h => ⟨fun c => (h c).2.2, sem_eq_zero_of_no_sems (by decide) r.2⟩)
    (Cert.ReferenceIdeal.Value.run (F := Ideal) m ρ)

section
open Cert.KernelIdeal (S1x2048x768 S2048x768 S8x768 S8x1536x768 S8x768x1536)
open Cert.KernelIdeal.Run (logit logitsOf weightsOf resultOf)
open Cert.ReferenceIdeal.Rows (logits logits_eq result_apply)
open Cert.ReferenceIdeal.Read (val_main_v2 val_main_v230)
open Cert.Row

variable (x0 : Vec Ideal S1x2048x768 .f32) (x1 : Vec Ideal S8x768 .f32) (x2 x3 : Vec Ideal S8x1536x768 .f32) (x4 : Vec Ideal S8x768x1536 .f32)

/-- The tokens, without the leading axis. -/
abbrev rows : Vec Ideal S2048x768 .f32 := shapeCast S2048x768 x0 Cert.KernelIdeal.Gen.shapeCasts_S1x2048x768_S2048x768

theorem rows_apply (r : Fin 2048) (q : Fin 768) : rows x0 (ix2 r q) = x0 (ix3 0 r q) := by
  pointwise [rows]

/-- Both programs' logits of a token are the same row. -/
theorem logit_eq (r : Fin 2048) : logit (rows x0) x1 r = logits x0 x1 r := by
  funext k
  rw [logits_eq]
  exact Finset.sum_congr rfl fun q _ => by rw [rows_apply]

/-- The logits results are equal. -/
theorem logits_result : logitsOf (rows x0) x1 = val_main_v2 (F := Ideal) x0 x1 := by
  funext i
  obtain ⟨r, k, rfl⟩ : ∃ (r : Fin 2048) (k : Fin 8), i = ix2 r k := ⟨i 0, i 1, eq_ix2 i⟩
  exact congrFun (logit_eq x0 x1 r) k

/-- The outputs are equal, when every logit is a real number. -/
theorem output_result (hb : ∀ r k, logits x0 x1 r k ≠ ⊥) (ht : ∀ r k, logits x0 x1 r k ≠ ⊤) :
    resultOf (rows x0) (weightsOf (rows x0) x1) x2 x3 x4 = val_main_v230 (F := Ideal) x0 x1 x2 x3 x4 := by
  funext i
  obtain ⟨r, l, rfl⟩ : ∃ (r : Fin 2048) (l : Fin 768), i = ix2 r l := ⟨i 0, i 1, eq_ix2 i⟩
  refine Eq.trans ?_ (result_apply x0 x1 x2 x3 x4 (ranked _) (hb r) (ht r) l).symm
  refine Finset.sum_congr rfl fun e _ => ?_
  show expert (fun q => rows x0 (ix2 r q)) (fun f q => x2 (ix3 e f q)) (fun f q => x3 (ix3 e f q)) (fun f => x4 (ix3 e l f))
    * weights (logit (rows x0) x1 r) e = _
  rw [logit_eq, mul_comm, funext (rows_apply x0 r)]
  rfl

end

/-- Over the extended reals the kernel's two results are the reference's, from any memory whose rows and gate's weights are
    real numbers. -/
theorem algebraic : Cert.algebraic_KernelIdeal_ReferenceIdeal_pre_finite_rows_and_gate := by
  intro m ρ m' ρ' hpre hag
  refine ⟨fun c => Cert.KernelIdeal.Run.atEnd m ρ c (Proc.devRef .tc Cert.KernelIdeal.main_v0_0),
    fun c => Cert.KernelIdeal.Run.atEnd m ρ c (Proc.devRef .tc Cert.KernelIdeal.main_v0_1), ?_, ?_⟩
  · refine (θ_run Cert.KernelIdeal.defs _ _).mono (fun r h c => ?_) (Cert.KernelIdeal.Run.run_all m ρ)
    obtain ⟨h3, h1, ha⟩ := h.1 c
    exact ⟨h3, h1, ha _ (by decide), ha _ (by decide), ha _ (by decide), ha _ (by decide), ha _ (by decide)⟩
  · refine (θ_run Cert.ReferenceIdeal.defs _ _).mono (fun r h c => ?_) (Cert.ReferenceIdeal.Value.run (F := Ideal) m' ρ')
    obtain ⟨h231, h2, ha⟩ := h c
    obtain ⟨a0, a1, a2, a3, a4⟩ := hag c
    have b0 : StableHlo.launchContents m' c (Proc.devRef .tc Cert.ReferenceIdeal.main_arg0)
        = m ((c.tc : Thread Cert.KernelIdeal.nD Cert.KernelIdeal.τ).loc Cert.KernelIdeal.main_arg0) := a0
    have b1 : StableHlo.launchContents m' c (Proc.devRef .tc Cert.ReferenceIdeal.main_arg1)
        = m ((c.tc : Thread Cert.KernelIdeal.nD Cert.KernelIdeal.τ).loc Cert.KernelIdeal.main_arg1) := a1
    have b2 : StableHlo.launchContents m' c (Proc.devRef .tc Cert.ReferenceIdeal.main_arg2)
        = m ((c.tc : Thread Cert.KernelIdeal.nD Cert.KernelIdeal.τ).loc Cert.KernelIdeal.main_arg2) := a2
    have b3 : StableHlo.launchContents m' c (Proc.devRef .tc Cert.ReferenceIdeal.main_arg3)
        = m ((c.tc : Thread Cert.KernelIdeal.nD Cert.KernelIdeal.τ).loc Cert.KernelIdeal.main_arg3) := a3
    have b4 : StableHlo.launchContents m' c (Proc.devRef .tc Cert.ReferenceIdeal.main_arg4)
        = m ((c.tc : Thread Cert.KernelIdeal.nD Cert.KernelIdeal.τ).loc Cert.KernelIdeal.main_arg4) := a4
    obtain ⟨f0, f1⟩ := Cert.Pre_finite_rows_and_gate.real_args (hpre c)
    have fin : ∀ r k, Cert.ReferenceIdeal.Rows.logits (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) r k ≠ ⊥
        ∧ Cert.ReferenceIdeal.Rows.logits (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) r k ≠ ⊤ := fun r k => by
      rw [Cert.ReferenceIdeal.Rows.logits_eq]
      exact Cert.Pre_finite_rows_and_gate.real_sum _ _ (f0 r) (f1 k)
    refine ⟨h231.trans ?_, h2.trans ?_, ha⟩
    · rw [Cert.ReferenceIdeal.Read.val_main_v231_eq, b0, b1, b2, b3, b4]
      refine Eq.symm ((Cert.KernelIdeal.Run.atEnd_output m ρ c fun R k => ?_).trans ?_)
      · exact (congrFun (logit_eq _ _ R) k).trans_ne (fin R k).1
      · exact congrArg (fun v => shapeCast _ v _) (output_result _ _ _ _ _ (fun r k => (fin r k).1) fun r k => (fin r k).2)
    · rw [Cert.ReferenceIdeal.Read.val_main_v2_eq, b0, b1]
      exact ((Cert.KernelIdeal.Run.atEnd_logits m ρ c).trans (logits_result _ _)).symm

theorem claim : Cert.Claim := ⟨Cert.Kernel.Gen.facts, Cert.KernelIdeal.Gen.facts, Cert.ReferenceIdeal.Gen.facts,
  Cert.Pre_finite_rows_and_gate.Gen.facts, frame_kernel, frame_ideal, frame_ideal_pre, frame_reference, frame_reference_pre, trivial, algebraic⟩

end Cert.Proof

end
